-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bias_above_mask [hPre_bias_above_mask : Cert.Pre_bias_above_mask.Facts] (m : (ℓ : Loc Cert.KernelIdeal.nD Cert.KernelIdeal.τ Cert.KernelIdeal.sig) → Buf (Elt Ideal) ℓ) : Prop :=
  ∀ c : Dev Cert.KernelIdeal.nD,
    (Cert.Pre_bias_above_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bias_above_mask [hPre_bias_above_mask : Cert.Pre_bias_above_mask.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bias_above_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bias_above_mask [hKernelIdeal : Cert.KernelIdeal.Facts] [hPre_bias_above_mask : Cert.Pre_bias_above_mask.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bias_above_mask m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bias_above_mask [hReferenceIdeal : Cert.ReferenceIdeal.Facts] [hPre_bias_above_mask : Cert.Pre_bias_above_mask.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bias_above_mask m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_bias_above_mask [hKernelIdeal : Cert.KernelIdeal.Facts] [hReferenceIdeal : Cert.ReferenceIdeal.Facts] [hPre_bias_above_mask : Cert.Pre_bias_above_mask.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bias_above_mask m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bias_above_mask : Cert.Pre_bias_above_mask.Facts),
    quiescent_Kernel (hKernel := hKernel)
    ∧ quiescent_KernelIdeal (hKernelIdeal := hKernelIdeal)
    ∧ quiescent_KernelIdeal_pre_bias_above_mask (hKernelIdeal := hKernelIdeal) (hPre_bias_above_mask := hPre_bias_above_mask)
    ∧ quiescent_ReferenceIdeal (hReferenceIdeal := hReferenceIdeal)
    ∧ quiescent_ReferenceIdeal_pre_bias_above_mask (hReferenceIdeal := hReferenceIdeal) (hPre_bias_above_mask := hPre_bias_above_mask)
    ∧ preserves_Kernel_KernelIdeal
    ∧ algebraic_KernelIdeal_ReferenceIdeal_pre_bias_above_mask (hKernelIdeal := hKernelIdeal) (hReferenceIdeal := hReferenceIdeal) (hPre_bias_above_mask := hPre_bias_above_mask)
-- ==== Pre_bias_above_mask.lean ====
abbrev S4x2048x4096 : Shape := ⟨3, ![4, 2048, 4096]⟩
abbrev S64x4096 : Shape := ⟨2, ![64, 4096]⟩
abbrev S64 : Shape := ⟨1, ![64]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S4x2048x4096 .f32) (main_arg1 : FVec F S64x4096 .f32) (main_arg2 : FVec F S64 .f32) : IVec S64 1 :=
  let main_cst : FVec F S_ .f32 := constant S_ .f32 0xFF800000#32
  let main_v0 : FVec F S64 .f32 := broadcastInDim S64 ![] bcast_S_S64 main_cst
  let main_v1 : IVec S64 1 := cmpf .ogt main_arg2 main_v0
  main_v1
-- ==== Kernel.lean ====
abbrev S4x2048x4096 : Shape := ⟨3, ![4, 2048, 4096]⟩
abbrev S64x4096 : Shape := ⟨2, ![64, 4096]⟩
abbrev S64 : Shape := ⟨1, ![64]⟩
abbrev S8192x4096 : Shape := ⟨2, ![8192, 4096]⟩
abbrev S4096x64 : Shape := ⟨2, ![4096, 64]⟩
abbrev S1x64 : Shape := ⟨2, ![1, 64]⟩
abbrev S8192x8 : Shape := ⟨2, ![8192, 8]⟩
abbrev S1024x4096 : Shape := ⟨2, ![1024, 4096]⟩
abbrev S1024x8 : Shape := ⟨2, ![1024, 8]⟩
abbrev S1024x64 : Shape := ⟨2, ![1024, 64]⟩
abbrev S64x64 : Shape := ⟨2, ![64, 64]⟩
abbrev S1024x1 : Shape := ⟨2, ![1024, 1]⟩
abbrev S1024 : Shape := ⟨1, ![1024]⟩

abbrev nBuf : Space → Nat
  | .hbm => 8
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S64x4096, .f32⟩
  | .hbm, ⟨2, _⟩ => ⟨S64, .f32⟩
  | .hbm, ⟨3, _⟩ => ⟨S8192x4096, .f32⟩
  | .hbm, ⟨4, _⟩ => ⟨S4096x64, .f32⟩
  | .hbm, ⟨5, _⟩ => ⟨S1x64, .f32⟩
  | .hbm, ⟨6, _⟩ => ⟨S8192x8, .i32⟩
  | .hbm, ⟨7, _⟩ => ⟨S8192x8, .f32⟩
  | .local _ .vmem, ⟨0, _⟩ => ⟨S1024x4096, .f32⟩
  | .local _ .vmem, ⟨1, _⟩ => ⟨S1024x4096, .f32⟩
  | .local _ .vmem, ⟨2, _⟩ => ⟨S4096x64, .f32⟩
  | .local _ .vmem, ⟨3, _⟩ => ⟨S1x64, .f32⟩
  | .local _ .vmem, ⟨4, _⟩ => ⟨S1024x8, .i32⟩
  | .local _ .vmem, ⟨5, _⟩ => ⟨S1024x8, .i32⟩
  | .local _ .vmem, ⟨6, _⟩ => ⟨S1024x8, .f32⟩
  | .local _ .vmem, ⟨7, _⟩ => ⟨S1024x8, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4x2048x4096 : Shape := ⟨3, ![4, 2048, 4096]⟩
abbrev S64x4096 : Shape := ⟨2, ![64, 4096]⟩
abbrev S64 : Shape := ⟨1, ![64]⟩
abbrev S8192x4096 : Shape := ⟨2, ![8192, 4096]⟩
abbrev S4096x64 : Shape := ⟨2, ![4096, 64]⟩
abbrev S8192x64 : Shape := ⟨2, ![8192, 64]⟩
abbrev S_ : Shape := ⟨0, ![]⟩
abbrev S1x64 : Shape := ⟨2, ![1, 64]⟩
abbrev S8192x8x8 : Shape := ⟨3, ![8192, 8, 8]⟩
abbrev S8192x8 : Shape := ⟨2, ![8192, 8]⟩
abbrev S8192x4 : Shape := ⟨2, ![8192, 4]⟩
abbrev S8192x4x1 : Shape := ⟨3, ![8192, 4, 1]⟩
abbrev S1 : Shape := ⟨1, ![1]⟩
abbrev S1x1x1 : Shape := ⟨3, ![1, 1, 1]⟩
abbrev S8192x4x8 : Shape := ⟨3, ![8192, 4, 8]⟩
abbrev S8192x32 : Shape := ⟨2, ![8192, 32]⟩
abbrev S8192x8x1 : Shape := ⟨3, ![8192, 8, 1]⟩
abbrev S8192 : Shape := ⟨1, ![8192]⟩
abbrev S8192x1 : Shape := ⟨2, ![8192, 1]⟩

abbrev nBuf : Space → Nat
  | .hbm => 147
  | .vmem => 0
  | .smem => 0
  | _ => 0

abbrev hbmTy0_0 (i : Nat) : BufTy := match i % 128 with
  | 0 => ⟨S4x2048x4096, .f32⟩
  | 1 => ⟨S64x4096, .f32⟩
  | 2 => ⟨S64, .f32⟩
  | 3 => ⟨S8192x4096, .f32⟩
  | 4 => ⟨S4096x64, .f32⟩
  | 5 => ⟨S8192x64, .f32⟩
  | 6 => ⟨S8192x64, .f32⟩
  | 7 => ⟨S8192x64, .f32⟩
  | 8 => ⟨S_, .f32⟩
  | 9 => ⟨S8192x64, .f32⟩
  | 10 => ⟨S8192x64, .f32⟩
  | 11 => ⟨S_, .f32⟩
  | 12 => ⟨S8192x64, .f32⟩
  | 13 => ⟨S8192x64, .f32⟩
  | 14 => ⟨S1x64, .f32⟩
  | 15 => ⟨S8192x64, .f32⟩
  | 16 => ⟨S8192x64, .f32⟩
  | 17 => ⟨S8192x8x8, .f32⟩
  | 18 => ⟨S_, .f32⟩
  | 19 => ⟨S8192x8, .f32⟩
  | 20 => ⟨S8192x4, .f32⟩
  | 21 => ⟨S8192x4, .i32⟩
  | 22 => ⟨S8192x4x1, .i32⟩
  | 23 => ⟨S_, .i32⟩
  | 24 => ⟨S8192x4x1, .i32⟩
  | 25 => ⟨S8192x4x1, .i1⟩
  | 26 => ⟨S_, .i32⟩
  | 27 => ⟨S8192x4x1, .i32⟩
  | 28 => ⟨S8192x4x1, .i32⟩
  | 29 => ⟨S8192x4x1, .i32⟩
  | 30 => ⟨S1, .i32⟩
  | 31 => ⟨S_, .i32⟩
  | 32 => ⟨S8192x4x1, .i32⟩
  | 33 => ⟨S8192x4x1, .i1⟩
  | 34 => ⟨S1x1x1, .i32⟩
  | 35 => ⟨S8192x4x1, .i32⟩
  | 36 => ⟨S8192x4x1, .i1⟩
  | 37 => ⟨S8192x4x1, .i1⟩
  | 38 => ⟨S_, .i1⟩
  | 39 => ⟨S8192x4, .i1⟩
  | 40 => ⟨S8192x4x8, .f32⟩
  | 41 => ⟨S8192x4x8, .i1⟩
  | 42 => ⟨S_, .f32⟩
  | 43 => ⟨S8192x4x8, .f32⟩
  | 44 => ⟨S8192x4x8, .f32⟩
  | 45 => ⟨S8192x32, .f32⟩
  | 46 => ⟨S8192x8, .f32⟩
  | 47 => ⟨S8192x8, .i32⟩
  | 48 => ⟨S_, .i32⟩
  | 49 => ⟨S_, .i32⟩
  | 50 => ⟨S8192x8, .i32⟩
  | 51 => ⟨S8192x8, .i32⟩
  | 52 => ⟨S8192x8, .i32⟩
  | 53 => ⟨S_, .i32⟩
  | 54 => ⟨S8192x8, .i32⟩
  | 55 => ⟨S8192x8, .i1⟩
  | 56 => ⟨S8192x8, .i32⟩
  | 57 => ⟨S8192x8, .i32⟩
  | 58 => ⟨S_, .i32⟩
  | 59 => ⟨S8192x8, .i32⟩
  | 60 => ⟨S8192x8, .i1⟩
  | 61 => ⟨S8192x8, .i1⟩
  | 62 => ⟨S_, .i32⟩
  | 63 => ⟨S8192x8, .i32⟩
  | 64 => ⟨S8192x8, .i32⟩
  | 65 => ⟨S8192x8, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S8192x8, .i32⟩
  | 73 => ⟨S8192x8, .i32⟩
  | 74 => ⟨S_, .i32⟩
  | 75 => ⟨S8192x8, .i32⟩
  | 76 => ⟨S8192x8, .i1⟩
  | 77 => ⟨S_, .i32⟩
  | 78 => ⟨S8192x8, .i32⟩
  | 79 => ⟨S8192x8, .i1⟩
  | 80 => ⟨S_, .i32⟩
  | 81 => ⟨S_, .i1⟩
  | 82 => ⟨S8192x8, .i1⟩
  | 83 => ⟨S8192x8, .i1⟩
  | 84 => ⟨S8192x8, .i1⟩
  | 85 => ⟨S8192x8, .i32⟩
  | 86 => ⟨S8192x8, .i32⟩
  | 87 => ⟨S8192x8, .i32⟩
  | 88 => ⟨S_, .i32⟩
  | 89 => ⟨S8192x8, .i32⟩
  | 90 => ⟨S8192x8, .i1⟩
  | 91 => ⟨S_, .i32⟩
  | 92 => ⟨S8192x8, .i32⟩
  | 93 => ⟨S8192x8, .i32⟩
  | 94 => ⟨S8192x8, .i32⟩
  | 95 => ⟨S8192x8x1, .i32⟩
  | 96 => ⟨S1, .i32⟩
  | 97 => ⟨S_, .i32⟩
  | 98 => ⟨S8192x8x1, .i32⟩
  | 99 => ⟨S8192x8x1, .i1⟩
  | 100 => ⟨S1x1x1, .i32⟩
  | 101 => ⟨S8192x8x1, .i32⟩
  | 102 => ⟨S8192x8x1, .i1⟩
  | 103 => ⟨S8192x8x1, .i1⟩
  | 104 => ⟨S_, .i1⟩
  | 105 => ⟨S8192x8, .i1⟩
  | 106 => ⟨S8192x8, .i32⟩
  | 107 => ⟨S_, .i32⟩
  | 108 => ⟨S8192x8, .i32⟩
  | 109 => ⟨S8192x8, .i32⟩
  | 110 => ⟨S_, .i32⟩
  | 111 => ⟨S8192x8, .i32⟩
  | 112 => ⟨S8192x8, .i32⟩
  | 113 => ⟨S8192x8, .i32⟩
  | 114 => ⟨S_, .i32⟩
  | 115 => ⟨S8192x8, .i32⟩
  | 116 => ⟨S8192x8, .i1⟩
  | 117 => ⟨S_, .i32⟩
  | 118 => ⟨S8192x8, .i32⟩
  | 119 => ⟨S8192x8, .i32⟩
  | 120 => ⟨S8192x8, .i32⟩
  | 121 => ⟨S8192x8x1, .i32⟩
  | 122 => ⟨S1, .i32⟩
  | 123 => ⟨S_, .i32⟩
  | 124 => ⟨S8192x8x1, .i32⟩
  | 125 => ⟨S8192x8x1, .i1⟩
  | 126 => ⟨S1x1x1, .i32⟩
  | 127 => ⟨S8192x8x1, .i32⟩
  | _ => ⟨S4x2048x4096, .f32⟩

abbrev hbmTy0_1 (i : Nat) : BufTy := match i % 128 with
  | 0 => ⟨S8192x8x1, .i1⟩
  | 1 => ⟨S8192x8x1, .i1⟩
  | 2 => ⟨S_, .i1⟩
  | 3 => ⟨S8192x8, .i1⟩
  | 4 => ⟨S8192x8, .f32⟩
  | 5 => ⟨S_, .f32⟩
  | 6 => ⟨S8192x8, .f32⟩
  | 7 => ⟨S8192x8, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S8192x8, .f32⟩
  | 15 => ⟨S8192x8, .f32⟩
  | 16 => ⟨S_, .f32⟩
  | 17 => ⟨S8192x8, .f32⟩
  | 18 => ⟨S8192x8, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_v14 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_1 : Ref sig .tc := ⟨.hbm, 30, rfl⟩
abbrev main_call0_c_2 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_c_3 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_cst : Ref sig .tc := ⟨.hbm, 42, rfl⟩
abbrev main_call0_v14 : Ref sig .tc := ⟨.hbm, 43, rfl⟩
abbrev main_v15 : Ref sig .tc := ⟨.hbm, 44, rfl⟩
abbrev main_v16 : Ref sig .tc := ⟨.hbm, 45, rfl⟩
abbrev main_values_2 : Ref sig .tc := ⟨.hbm, 46, rfl⟩
abbrev main_indices_3 : Ref sig .tc := ⟨.hbm, 47, rfl⟩
abbrev main_c : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_c : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_0 : Ref sig .tc := ⟨.hbm, 62, rfl⟩
abbrev main_call1_v12 : Ref sig .tc := ⟨.hbm, 63, rfl⟩
abbrev main_call1_v13 : Ref sig .tc := ⟨.hbm, 64, rfl⟩
abbrev main_v17 : Ref sig .tc := ⟨.hbm, 65, rfl⟩
abbrev main_c_4 : Ref sig .tc := ⟨.hbm, 66, rfl⟩
abbrev main_call2_v0 : Ref sig .tc := ⟨.hbm, 67, rfl⟩
abbrev main_call2_c : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_1 : Ref sig .tc := ⟨.hbm, 74, rfl⟩
abbrev main_call2_v5 : Ref sig .tc := ⟨.hbm, 75, rfl⟩
abbrev main_call2_v6 : Ref sig .tc := ⟨.hbm, 76, rfl⟩
abbrev main_call2_c_2 : Ref sig .tc := ⟨.hbm, 77, rfl⟩
abbrev main_call2_v7 : Ref sig .tc := ⟨.hbm, 78, rfl⟩
abbrev main_call2_v8 : Ref sig .tc := ⟨.hbm, 79, rfl⟩
abbrev main_call2_c_3 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_v18 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_c_4 : Ref sig .tc := ⟨.hbm, 107, rfl⟩
abbrev main_call3_v14 : Ref sig .tc := ⟨.hbm, 108, rfl⟩
abbrev main_v19 : Ref sig .tc := ⟨.hbm, 109, rfl⟩
abbrev main_c_5 : Ref sig .tc := ⟨.hbm, 110, rfl⟩
abbrev main_v20 : Ref sig .tc := ⟨.hbm, 111, rfl⟩
abbrev main_v21 : Ref sig .tc := ⟨.hbm, 112, rfl⟩
abbrev main_v22 : Ref sig .tc := ⟨.hbm, 113, rfl⟩
abbrev main_call4_c : Ref sig .tc := ⟨.hbm, 114, rfl⟩
abbrev main_call4_v0 : Ref sig .tc := ⟨.hbm, 115, rfl⟩
abbrev main_call4_v1 : Ref sig .tc := ⟨.hbm, 116, rfl⟩
abbrev main_call4_c_0 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_v5 : Ref sig .tc := ⟨.hbm, 121, rfl⟩
abbrev main_call4_c_1 : Ref sig .tc := ⟨.hbm, 122, rfl⟩
abbrev main_call4_c_2 : Ref sig .tc := ⟨.hbm, 123, rfl⟩
abbrev main_call4_v6 : Ref sig .tc := ⟨.hbm, 124, rfl⟩
abbrev main_call4_v7 : Ref sig .tc := ⟨.hbm, 125, rfl⟩
abbrev main_call4_v8 : Ref sig .tc := ⟨.hbm, 126, rfl⟩
abbrev main_call4_v9 : Ref sig .tc := ⟨.hbm, 127, rfl⟩
abbrev main_call4_v10 : Ref sig .tc := ⟨.hbm, 128, rfl⟩
abbrev main_call4_v11 : Ref sig .tc := ⟨.hbm, 129, rfl⟩
abbrev main_call4_c_3 : Ref sig .tc := ⟨.hbm, 130, rfl⟩
abbrev main_call4_v12 : Ref sig .tc := ⟨.hbm, 131, rfl⟩
abbrev main_call4_v13 : Ref sig .tc := ⟨.hbm, 132, rfl⟩
abbrev main_call4_cst : Ref sig .tc := ⟨.hbm, 133, rfl⟩
abbrev main_call4_v14 : Ref sig .tc := ⟨.hbm, 134, rfl⟩
abbrev main_v23 : Ref sig .tc := ⟨.hbm, 135, rfl⟩
abbrev main_cst_6 : Ref sig .tc := ⟨.hbm, 136, rfl⟩
abbrev main_v24 : Ref sig .tc := ⟨.hbm, 137, rfl⟩
abbrev main_v25 : Ref sig .tc := ⟨.hbm, 138, rfl⟩
abbrev main_cst_7 : Ref sig .tc := ⟨.hbm, 139, rfl⟩
abbrev main_v26 : Ref sig .tc := ⟨.hbm, 140, rfl⟩
abbrev main_v27 : Ref sig .tc := ⟨.hbm, 141, rfl⟩
abbrev main_v28 : Ref sig .tc := ⟨.hbm, 142, rfl⟩
abbrev main_v29 : Ref sig .tc := ⟨.hbm, 143, rfl⟩
abbrev main_cst_8 : Ref sig .tc := ⟨.hbm, 144, rfl⟩
abbrev main_v30 : Ref sig .tc := ⟨.hbm, 145, rfl⟩
abbrev main_v31 : Ref sig .tc := ⟨.hbm, 146, rfl⟩

abbrev nD : Nat := 1
abbrev τ : Topo := Topo.v7x

variable {F : FTy → Type} [FloatOps F]
-- ==== Proof.Select.lean ====
/- The order in which the router takes its experts, on one token's row of numbers: what a stable descending sort visits,
   and what eight rounds of "greatest value, then least priority" visit, are the same experts in the same order. -/
module

public import Idealize.ShloMosaic.PureOps.Ideal
public import Idealize.ShloMosaic.Lib.PlanTiles.StableSort

@[expose] public section

noncomputable section

namespace Cert.Router

open Idealize.ShloMosaic Finset

section Order
variable {n : ℕ} (x : Fin n → EReal)

/-- Position `a` is taken before position `b`: its value is greater, or equal with `a` the lower position. -/
def Beats (a b : Fin n) : Prop := x b < x a ∨ (x a = x b ∧ a < b)

/-- How many values lie strictly below the one at `k`: a natural number ordered as the values are. -/
def level (k : Fin n) : ℕ := by
  classical exact (univ.filter fun j => x j < x k).card

/-- Levels compare as the values do. -/
theorem level_lt (a b : Fin n) : level x a < level x b ↔ x a < x b := by
  classical
  have mono : ∀ a b : Fin n, x a ≤ x b → level x a ≤ level x b := fun a b h => by
    unfold level
    exact card_le_card fun j hj => by
      simp only [mem_filter, mem_univ, true_and] at hj ⊢
      exact lt_of_lt_of_le hj h
  refine ⟨fun h => lt_of_not_ge fun hb => absurd (mono b a hb) (by omega), fun h => ?_⟩
  unfold level
  refine card_lt_card ⟨fun j hj => ?_, fun hs => ?_⟩
  · simp only [mem_filter, mem_univ, true_and] at hj ⊢
    exact lt_trans hj h
  · have := hs (mem_filter.mpr ⟨mem_univ a, h⟩)
    simp only [mem_filter, mem_univ, true_and, lt_self_iff_false] at this

/-- The position a stable descending sort of `x` puts at place `k`. -/
def order (k : Fin n) : Fin n := sortedFrom (fun k k' => decide (x k' < x k)) k

/-- An earlier place of the sort holds a position that is taken before the later one's. -/
theorem order_beats {i j : Fin n} (h : i < j) : Beats x (order x i) (order x j) := by
  have hB : (fun k k' : Fin n => decide (x k' < x k)) = fun k k' => decide (level x k' < level x k) := by
    funext k k'; simp only [level_lt]
  have hp := List.pairwise_iff_get.mp
    (PlanTiles.pairwise_stableSort_lex (level x) (· < ·) (List.finRange n) (List.pairwise_lt_finRange n))
  unfold order sortedFrom sortPositions
  rw [hB]
  have := hp (i.cast (length_sortPositions n _).symm) (j.cast (length_sortPositions n _).symm) h
  rcases this with h1 | ⟨h1, h2⟩
  · exact Or.inl ((level_lt x _ _).mp h1)
  · refine Or.inr ⟨le_antisymm (not_lt.mp fun h => ?_) (not_lt.mp fun h => ?_), h2⟩
    · exact absurd ((level_lt x _ _).mpr h) (by omega)
    · exact absurd ((level_lt x _ _).mpr h) (by omega)

/-- The sort as a permutation of the positions. -/
def perm : Equiv.Perm (Fin n) :=
  Equiv.ofBijective (order x) ⟨sortedFrom_injective _, sortedFrom_surjective _⟩

/-- Of two positions at most one is taken before the other. -/
theorem Beats.asymm {a b : Fin n} (h : Beats x a b) : ¬ Beats x b a := by
  rintro (h' | ⟨h', l'⟩) <;> rcases h with h | ⟨h, l⟩
  · exact absurd h (not_lt.mpr h'.le)
  · exact absurd h' (by rw [h]; exact lt_irrefl _)
  · exact absurd h (by rw [h']; exact lt_irrefl _)
  · exact absurd l (not_lt.mpr l'.le)

/-- Being taken before is having the earlier place in the sort. -/
theorem beats_iff (a b : Fin n) : Beats x a b ↔ (perm x).symm a < (perm x).symm b := by
  have key : ∀ i j, i < j → Beats x (perm x i) (perm x j) := fun i j h => order_beats x h
  refine ⟨fun h => ?_, fun h => by simpa using key _ _ h⟩
  by_contra hn
  rcases lt_or_eq_of_le (not_lt.mp hn) with h1 | h1
  · exact Beats.asymm x h (by simpa using key _ _ h1)
  · have : a = b := by simpa using h1.symm
    subst this
    exact Beats.asymm x h h

/-- A position's place in the sort is the number of positions taken before it. -/
theorem card_beats (b : Fin n) [DecidablePred fun a => Beats x a b] :
    (univ.filter fun a => Beats x a b).card = ((perm x).symm b).val := by
  have : (univ.filter fun a => Beats x a b) = (univ.filter fun i => i < (perm x).symm b).map (perm x).toEmbedding := by
    ext a
    simp only [mem_filter, mem_univ, true_and, mem_map, Equiv.coe_toEmbedding, beats_iff]
    exact ⟨fun h => ⟨(perm x).symm a, h, by simp⟩, by rintro ⟨i, hi, rfl⟩; simpa using hi⟩
  rw [this, card_map, show (univ.filter fun i => i < (perm x).symm b) = Iio ((perm x).symm b) from by ext; simp,
    Fin.card_Iio]

end Order

/-! ## One token's row: 64 experts in 8 groups of 8 -/

section Row

/-- The group of an expert. -/
def grp (e : Fin 64) : Fin 8 := ⟨e.val / 8, by omega⟩

variable (G : Fin 8 → EReal) (f : Fin 64 → EReal)

/-- The expert at place `q` of the four best groups laid side by side. -/
def ex (q : Fin 32) : Fin 64 :=
  ⟨8 * (perm G ⟨q.val / 8, by omega⟩).val + q.val % 8, by omega⟩

/-- The experts of the four best groups in the order they are taken. -/
def place (j : Fin 32) : Fin 64 := ex G (perm (fun q => f (ex G q)) j)

/-- The place of an expert's group among the groups. -/
def gpos (e : Fin 64) : ℕ := ((perm G).symm (grp e)).val

/-- The priority the kernel breaks ties by: the group's place, then the lane. -/
def prio (e : Fin 64) : ℕ := gpos G e * 512 + e.val

/-- What is still available before round `j`: the places from `j` on at their value, all else masked out. -/
def avail (j : ℕ) (e : Fin 64) : EReal := by
  classical exact if ∃ i : Fin 32, j ≤ i.val ∧ place G f i = e then f e else ⊥

/-- The group of the expert at a place is the one the place lies in. -/
theorem grp_ex (q : Fin 32) : grp (ex G q) = perm G ⟨q.val / 8, by omega⟩ := by
  apply Fin.ext
  show (8 * (perm G ⟨q.val / 8, by omega⟩).val + q.val % 8) / 8 = _
  omega

/-- The place of the group of the expert at place `q`. -/
theorem gpos_ex (q : Fin 32) : gpos G (ex G q) = q.val / 8 := by
  unfold gpos; rw [grp_ex]; simp

/-- Different places hold different experts. -/
theorem ex_injective : Function.Injective (ex G) := fun q q' h => by
  have h1 := congrArg (gpos G) h
  rw [gpos_ex, gpos_ex] at h1
  have h2 := congrArg Fin.val h
  have e : (⟨q.val / 8, by omega⟩ : Fin 8) = ⟨q'.val / 8, by omega⟩ := Fin.ext h1
  simp only [ex, e] at h2
  exact Fin.ext (by omega)

/-- An expert stands at some place exactly when its group is one of the four best. -/
theorem exists_ex (e : Fin 64) : (∃ q, ex G q = e) ↔ gpos G e < 4 := by
  refine ⟨?_, fun h => ?_⟩
  · rintro ⟨q, rfl⟩; rw [gpos_ex]; omega
  · refine ⟨⟨8 * gpos G e + e.val % 8, by omega⟩, Fin.ext ?_⟩
    have h1 : (⟨(8 * gpos G e + e.val % 8) / 8, by omega⟩ : Fin 8) = (perm G).symm (grp e) :=
      Fin.ext (by show (8 * gpos G e + e.val % 8) / 8 = gpos G e; omega)
    simp only [ex, h1, Equiv.apply_symm_apply, grp]
    omega

/-- Different rounds take different experts. -/
theorem place_injective : Function.Injective (place G f) :=
  (ex_injective G).comp (perm _).injective

/-- Priorities are different for different experts. -/
theorem prio_injective : Function.Injective (prio G) := fun e e' h => by
  unfold prio at h
  exact Fin.ext (by omega)

/-- Priority runs as the places do. -/
theorem prio_ex_lt {q q' : Fin 32} (h : q < q') : prio G (ex G q) < prio G (ex G q') := by
  unfold prio
  rw [gpos_ex, gpos_ex]
  have hq : q.val < q'.val := h
  by_cases hd : q.val / 8 = q'.val / 8
  · have e : (⟨q.val / 8, by omega⟩ : Fin 8) = ⟨q'.val / 8, by omega⟩ := Fin.ext hd
    simp only [ex, e]; omega
  · have h1 := (ex G q).isLt
    omega

/-- Before the first round the four best groups are available. -/
theorem avail_zero (e : Fin 64) : avail G f 0 e = if gpos G e < 4 then f e else ⊥ := by
  unfold avail
  have : (∃ i : Fin 32, 0 ≤ i.val ∧ place G f i = e) ↔ gpos G e < 4 := by
    rw [← exists_ex]
    refine ⟨fun ⟨i, _, h⟩ => ⟨_, h⟩, fun ⟨q, h⟩ => ⟨(perm fun q => f (ex G q)).symm q, Nat.zero_le _, ?_⟩⟩
    unfold place; simpa using h
  exact if_congr this rfl rfl

/-- An expert still available has its value. -/
theorem avail_place {j : ℕ} {i : Fin 32} (h : j ≤ i.val) : avail G f j (place G f i) = f (place G f i) := by
  unfold avail; exact if_pos ⟨i, h, rfl⟩

/-- The order of the rounds: value first, then priority. -/
theorem place_order {i j : Fin 32} (h : i < j) :
    f (place G f j) < f (place G f i)
      ∨ (f (place G f i) = f (place G f j) ∧ prio G (place G f i) < prio G (place G f j)) := by
  have hb : Beats (fun q => f (ex G q)) (perm (fun q => f (ex G q)) i) (perm (fun q => f (ex G q)) j) := by
    rw [beats_iff]; simpa using h
  unfold place
  generalize perm (fun q => f (ex G q)) i = a at hb ⊢
  generalize perm (fun q => f (ex G q)) j = b at hb ⊢
  rcases hb with h | ⟨h, l⟩
  · exact Or.inl h
  · exact Or.inr ⟨h, prio_ex_lt G l⟩

/-- The greatest available value before round `j` is that of the expert at place `j`. -/
theorem max_avail (j : Fin 32) :
    (univ : Finset (Fin 64)).fold max ⊥ (avail G f j.val) = f (place G f j) := by
  refine le_antisymm ((fold_max_le _).mpr ⟨bot_le, fun e _ => ?_⟩)
    ((le_fold_max _).mpr (Or.inr ⟨place G f j, mem_univ _, (avail_place G f le_rfl).ge⟩))
  by_cases he : ∃ i : Fin 32, j.val ≤ i.val ∧ place G f i = e
  · obtain ⟨i, hi, rfl⟩ := he
    rw [avail_place G f hi]
    rcases lt_or_eq_of_le (show j ≤ i from hi) with h | rfl
    · rcases place_order G f h with h | ⟨h, _⟩
      · exact h.le
      · exact h.ge
    · exact le_rfl
  · unfold avail; rw [if_neg he]; exact bot_le

/-- The least priority among the lanes holding that value is that of the expert at place `j`. -/
theorem min_prio (hf : ∀ e, f e ≠ ⊥) (j : Fin 32) :
    (univ : Finset (Fin 64)).fold min ⊤
        (fun e => if avail G f j.val e = f (place G f j) then ((prio G e : ℕ) : EReal) else 4096)
      = ((prio G (place G f j) : ℕ) : EReal) := by
  have hlt : ∀ e, prio G e < 4096 := fun e => by
    have h1 := ((perm G).symm (grp e)).isLt
    have h2 := e.isLt
    unfold prio gpos; omega
  refine le_antisymm ((fold_min_le _).mpr (Or.inr ⟨place G f j, mem_univ _, ?_⟩))
    ((le_fold_min _).mpr ⟨le_top, fun e _ => ?_⟩)
  · rw [if_pos (avail_place G f le_rfl)]
  · split
    · next h =>
      by_cases he : ∃ i : Fin 32, j.val ≤ i.val ∧ place G f i = e
      · obtain ⟨i, hi, rfl⟩ := he
        rw [avail_place G f hi] at h
        rcases lt_or_eq_of_le (show j ≤ i from hi) with hlt | rfl
        · rcases place_order G f hlt with h' | ⟨_, h'⟩
          · exact absurd h' (by rw [h]; exact lt_irrefl _)
          · exact_mod_cast h'.le
        · exact le_rfl
      · unfold avail at h; rw [if_neg he] at h; exact absurd h.symm (hf _)
    · exact_mod_cast (hlt _).le

/-- A lane is the round's choice exactly when its priority is the round's. -/
theorem prio_eq (e e' : Fin 64) : ((prio G e : ℕ) : EReal) = ((prio G e' : ℕ) : EReal) ↔ e = e' :=
  ⟨fun h => prio_injective G (by exact_mod_cast h), fun h => by rw [h]⟩

/-- Masking out the round's choice leaves what is available before the next round. -/
theorem avail_succ (j : Fin 32) (e : Fin 64) :
    avail G f (j.val + 1) e
      = if ((prio G e : ℕ) : EReal) = ((prio G (place G f j) : ℕ) : EReal) then ⊥ else avail G f j.val e := by
  by_cases he : e = place G f j
  · subst he
    rw [if_pos rfl]
    unfold avail
    refine if_neg ?_
    rintro ⟨i, hi, h⟩
    have := congrArg Fin.val (place_injective G f h)
    omega
  · rw [if_neg (fun h => he ((prio_eq G _ _).mp h))]
    unfold avail
    refine if_congr ⟨fun ⟨i, hi, h⟩ => ⟨i, by omega, h⟩, fun ⟨i, hi, h⟩ => ⟨i, ?_, h⟩⟩ rfl rfl
    rcases Nat.lt_or_eq_of_le hi with h' | h'
    · exact h'
    · exact absurd (by rw [← h]; exact congrArg _ (Fin.ext h'.symm)) he

/-- The sum that keeps only the round's choice is the choice's term. -/
theorem sum_choice (s : Fin 64 → EReal) (j : Fin 32) :
    (∑ e : Fin 64, if ((prio G e : ℕ) : EReal) = ((prio G (place G f j) : ℕ) : EReal) then s e else 0)
      = s (place G f j) := by
  simp only [prio_eq]
  simp

/-- The lane read back from a priority. -/
theorem prio_mod (e : Fin 64) : prio G e - prio G e / 512 * 512 = e.val := by
  unfold prio; omega

end Row

/-- The sum over a group's experts. -/
def groupSum (f : Fin 64 → EReal) (g : Fin 8) : EReal := ∑ k : Fin 8, f ⟨8 * g.val + k.val, by omega⟩

/-- The same sum taken over all experts, the others left out. -/
theorem groupSum_eq (f : Fin 64 → EReal) (g : Fin 8) : groupSum f g = ∑ x : Fin 64, if grp x = g then f x else 0 := by
  let E : Fin 8 × Fin 8 ≃ Fin 64 := finProdFinEquiv (m := 8) (n := 8)
  have e8 : (∑ x : Fin 64, if grp x = g then f x else 0) = ∑ q : Fin 8 × Fin 8, if grp (E q) = g then f (E q) else 0 :=
    (Equiv.sum_comp E (fun x : Fin 64 => if grp x = g then f x else 0)).symm
  have hq : ∀ a b : Fin 8, E (a, b) = ⟨8 * a.val + b.val, by omega⟩ := fun a b =>
    Fin.ext (Nat.add_comm b.val (8 * a.val))
  have hg : ∀ a b : Fin 8, grp ⟨8 * a.val + b.val, by omega⟩ = a := fun a b => Fin.ext (by show (8 * a.val + b.val) / 8 = _; omega)
  rw [e8, Fintype.sum_prod_type]
  simp only [hq, hg]
  rw [Finset.sum_eq_single g]
  · simp only [if_true]; rfl
  · intro a _ ha; simp only [if_neg ha, Finset.sum_const_zero]
  · intro h; exact absurd (Finset.mem_univ g) h

/-- The expert taken in round `k` from the biased scores of one token. -/
def expert (f : Fin 64 → EReal) (k : Fin 8) : Fin 64 := place (groupSum f) f ⟨k.val, by omega⟩

/-- A chosen score's share of the sum of the chosen scores, scaled as both programs scale it. -/
def share (w : Fin 8 → EReal) (k : Fin 8) : EReal :=
  Ideal.div (w k) ((∑ j, w j) + Ideal.ofBits .f32 0x1E3CE508#32) * Ideal.ofBits .f32 0x40200000#32

end Cert.Router

end
-- ==== Proof.Rounds.lean ====
/- The kernel's body in one vocabulary: the eight choosing rounds, which the program spells out one after the other, as
   one step repeated, and the eight steps of the group ranking likewise. -/
module

public import proofs.«01_k».proof.Proof.Gen.KernelIdeal.Frame
public import proofs.«01_k».proof.Proof.Select
public import Idealize.ShloMosaic.Lib.Pointwise

@[expose] public section

set_option maxRecDepth 16384

noncomputable section

namespace Cert.KernelIdeal.Rounds

open Idealize.ShloMosaic Cert.KernelIdeal Cert.KernelIdeal.Gen

/-- A vector of one number per row and expert. -/
local notation "FX" => FVec Ideal S1024x64 FTy.f32
/-- A column of one number per row. -/
local notation "FC" => FVec Ideal S1024x1 FTy.f32

/-! ## One choosing round -/

/-- The greatest available value of each row, along the row. -/
def top (a : FX) : FX :=
  broadcastTo S1024x64 (shapeCast S1024x1 (multiReduction .maximumf [1] S1024 a 0xFF800000#32 reduces_S1024x64_S1024 (.inl rfl) rfl) shapeCasts_S1024_S1024x1) broadcasts_S1024x1_S1024x64

/-- The least priority among the lanes that hold it. -/
def best (p a : FX) : FC :=
  shapeCast S1024x1 (multiReduction .minimumf [1] S1024
    (select (cmpf .oeq a (top a)) p (broadcast S1024x64 (Scalar.ofBits .f32 0x45800000#32))) 0x7F800000#32
    reduces_S1024x64_S1024 (.inl rfl) rfl) shapeCasts_S1024_S1024x1

/-- The chosen lane of each row. -/
def chosen (p a : FX) : IVec S1024x64 1 := cmpf .oeq p (broadcastTo S1024x64 (best p a) broadcasts_S1024x1_S1024x64)

/-- What is available afterwards: the chosen lane masked out. -/
def next (p a : FX) : FX := select (chosen p a) (broadcast S1024x64 (Named.named κ "mask" 0xF149F2CA#32)) a

/-- The chosen lane's number, recovered from its priority. -/
def lane (p a : FX) : FC :=
  subf (best p a) (mulf (floor (mulf (best p a) (broadcast S1024x1 (Scalar.ofBits .f32 0x3B000000#32))))
    (broadcast S1024x1 (Scalar.ofBits .f32 0x44000000#32)))

/-- The chosen lane's score. -/
def weight (s p a : FX) : FC :=
  shapeCast S1024x1 (multiReduction .add [1] S1024
    (select (chosen p a) s (broadcast S1024x64 (Scalar.ofBits .f32 0x00000000#32))) 0x00000000#32
    reduces_S1024x64_S1024 (.inl rfl) rfl) shapeCasts_S1024_S1024x1

/-- What is available before round `k`. -/
def after (p a : FX) : ℕ → FX
  | 0 => a
  | k + 1 => next p (after p a k)

/-! ## One step of the group ranking -/

/-- One where the group whose first lane is `o` comes before the lane's own group, else zero. -/
def step (g v : FX) (o : ℕ) (h : S1024x64.Slices ![0, o] S1024x1) (b : BitVec 32) : FX :=
  sitofp .f32 (extui 32 (ori
    (cmpf .ogt (broadcastTo S1024x64 (extractStridedSlice S1024x1 ![0, o] v h) broadcasts_S1024x1_S1024x64) v)
    (andi (cmpf .oeq (broadcastTo S1024x64 (extractStridedSlice S1024x1 ![0, o] v h) broadcasts_S1024x1_S1024x64) v)
      (cmpf .ogt g (broadcast S1024x64 (Scalar.ofBits .f32 b))))) natLt_1_32)

/-- The place of each lane's group among the groups: the eight steps added up. -/
def ranks (g v : FX) : FX :=
  addf (addf (addf (addf (addf (addf (addf (addf (broadcast S1024x64 (Scalar.ofBits .f32 0x00000000#32))
    (step g v 0 slices_S1024x64_o0_0_S1024x1 0x00000000#32)) (step g v 8 slices_S1024x64_o0_8_S1024x1 0x41000000#32))
    (step g v 16 slices_S1024x64_o0_16_S1024x1 0x41800000#32)) (step g v 24 slices_S1024x64_o0_24_S1024x1 0x41C00000#32))
    (step g v 32 slices_S1024x64_o0_32_S1024x1 0x42000000#32)) (step g v 40 slices_S1024x64_o0_40_S1024x1 0x42200000#32))
    (step g v 48 slices_S1024x64_o0_48_S1024x1 0x42400000#32)) (step g v 56 slices_S1024x64_o0_56_S1024x1 0x42600000#32)

/-! ## The program's values in this vocabulary -/

section Bridge
variable (s p a c : FX)

/-- The best value of the next round. -/
theorem pay26_eq : k0_pay26 p a (chosen p a) = best p (next p a) := rfl
/-- The chosen expert's number of the next round. -/
theorem pay28_eq : k0_pay28 p a (chosen p a) = lane p (next p a) := rfl
/-- The chosen expert's weight of the next round. -/
theorem pay29_eq : k0_pay29 s p a (chosen p a) = weight s p (next p a) := rfl
/-- The scores still available after the next round. -/
theorem pay30_eq : k0_pay30 p a (chosen p a) = next p (next p a) := rfl
/-- The chosen lanes of the next but one round. -/
theorem pay32_eq : k0_pay32 p a (chosen p a) = chosen p (next p (next p a)) := rfl
/-- The chosen expert's number of the next but one round. -/
theorem pay33_eq : k0_pay33 p a (chosen p a) = lane p (next p (next p a)) := rfl
/-- The chosen expert's weight of the next but one round. -/
theorem pay35_eq : k0_pay35 (k0_pay34 s p a (chosen p a)) = weight s p (next p (next p a)) := rfl
/-- The chosen expert's number of the next round. -/
theorem pay39_eq : k0_pay39 p a (chosen p a) = lane p (next p a) := rfl
/-- The chosen expert's weight of the next round. -/
theorem pay40_eq : k0_pay40 s p a (chosen p a) = weight s p (next p a) := rfl
/-- The scores still available after the next round. -/
theorem pay41_eq : k0_pay41 p a (chosen p a) = next p (next p a) := rfl
/-- The chosen lanes of the next but one round. -/
theorem pay43_eq : k0_pay43 p a (chosen p a) = chosen p (next p (next p a)) := rfl
/-- The chosen expert's number of the next but one round. -/
theorem pay44_eq : k0_pay44 p a (chosen p a) = lane p (next p (next p a)) := rfl
/-- The chosen expert's weight of the next but one round. -/
theorem pay46_eq : k0_pay46 (k0_pay45 s p a (chosen p a)) = weight s p (next p (next p a)) := rfl
/-- The chosen expert's number of the next round. -/
theorem pay50_eq : k0_pay50 p a (chosen p a) = lane p (next p a) := rfl
/-- The chosen expert's weight of the next round. -/
theorem pay51_eq : k0_pay51 s p a (chosen p a) = weight s p (next p a) := rfl
/-- The scores still available after the next round. -/
theorem pay52_eq : k0_pay52 p a (chosen p a) = next p (next p a) := rfl
/-- The chosen lanes of the next but one round. -/
theorem pay54_eq : k0_pay54 p a (chosen p a) = chosen p (next p (next p a)) := rfl
/-- The chosen expert's number of the next but one round. -/
theorem pay55_eq : k0_pay55 p a (chosen p a) = lane p (next p (next p a)) := rfl
/-- The best value of the next round. -/
theorem pay57_eq : k0_pay57 p a (chosen p a) = best p (next p a) := rfl

end Bridge

section Block
variable (x0 : Vec Ideal S1024x4096 .f32) (x1 : Vec Ideal S4096x64 .f32) (x2 : Vec Ideal S1x64 .f32)

/-- The place of each lane's group. -/
theorem ranks_eq : k0_pay17 (k0_pay63 x0 x1 x2) (k0_pay67 x0 x1 x2) (k0_pay68 x0 x1 x2) (k0_pay69 x0 x1 x2) (k0_pay70 x0 x1 x2)
    = ranks (k0_pay4 (F := Ideal)) (k0_pay67 x0 x1 x2) := rfl

/-- The priorities. -/
theorem prio_eq : k0_pay71 x0 x1 x2
    = addf (mulf (ranks (k0_pay4 (F := Ideal)) (k0_pay67 x0 x1 x2)) (broadcast S1024x64 (Scalar.ofBits .f32 0x44000000#32))) (k0_pay3 (F := Ideal)) := rfl

/-- What is available before the first round. -/
theorem avail_eq : k0_pay72 x0 x1 x2
    = select (cmpf .olt (ranks (k0_pay4 (F := Ideal)) (k0_pay67 x0 x1 x2)) (broadcast S1024x64 (Scalar.ofBits .f32 0x40800000#32)))
        (k0_pay61 x0 x1 x2) (broadcast S1024x64 (Named.named κ "mask" 0xF149F2CA#32)) := rfl

end Block

/-- The first result's block: the eight lanes, as integers. -/
def words (p a : FX) : IVec S1024x8 32 :=
  fptosi 32 (concatenate S1024x8 1 [⟨S1024x1, lane p (after p a 0)⟩, ⟨S1024x1, lane p (after p a 1)⟩,
    ⟨S1024x1, lane p (after p a 2)⟩, ⟨S1024x1, lane p (after p a 3)⟩, ⟨S1024x1, lane p (after p a 4)⟩,
    ⟨S1024x1, lane p (after p a 5)⟩, ⟨S1024x1, lane p (after p a 6)⟩, ⟨S1024x1, lane p (after p a 7)⟩]
    concatenates_S1024x1_S1024x1_S1024x1_S1024x1_S1024x1_S1024x1_S1024x1_S1024x1_S1024x8_d1)

/-- The eight chosen scores side by side. -/
def picked (s p a : FX) : FVec Ideal S1024x8 .f32 :=
  concatenate S1024x8 1 [⟨S1024x1, weight s p (after p a 0)⟩, ⟨S1024x1, weight s p (after p a 1)⟩,
    ⟨S1024x1, weight s p (after p a 2)⟩, ⟨S1024x1, weight s p (after p a 3)⟩, ⟨S1024x1, weight s p (after p a 4)⟩,
    ⟨S1024x1, weight s p (after p a 5)⟩, ⟨S1024x1, weight s p (after p a 6)⟩, ⟨S1024x1, weight s p (after p a 7)⟩]
    concatenates_S1024x1_S1024x1_S1024x1_S1024x1_S1024x1_S1024x1_S1024x1_S1024x1_S1024x8_d1

/-- The second result's block: the chosen scores over their sum, scaled. -/
def weights (s p a : FX) : FVec Ideal S1024x8 .f32 :=
  mulf (divf (picked s p a) (broadcastTo S1024x8
    (addf (shapeCast S1024x1 (multiReduction .add [1] S1024 (picked s p a) 0x00000000#32 reduces_S1024x8_S1024 (.inl rfl) rfl) shapeCasts_S1024_S1024x1)
      (broadcast S1024x1 (Scalar.ofBits .f32 0x1E3CE508#32))) broadcasts_S1024x1_S1024x8))
    (broadcast S1024x8 (Scalar.ofBits .f32 0x40200000#32))

section Out
variable (x0 : Vec Ideal S1024x4096 .f32) (x1 : Vec Ideal S4096x64 .f32) (x2 : Vec Ideal S1x64 .f32)

/-- The lane chosen first. -/
theorem chosen0 : k0_pay73 x0 x1 x2 = chosen (k0_pay71 x0 x1 x2) (k0_pay72 x0 x1 x2) := rfl

/-- What is available after two rounds, -/
theorem after2 : k0_pay74 x0 x1 x2 = after (k0_pay71 x0 x1 x2) (k0_pay72 x0 x1 x2) 2 := by
  rw [k0_pay74, chosen0, pay30_eq]; rfl
/-- and the lane chosen then. -/
theorem chosen2 : k0_pay75 x0 x1 x2 = chosen (k0_pay71 x0 x1 x2) (after (k0_pay71 x0 x1 x2) (k0_pay72 x0 x1 x2) 2) := by
  rw [k0_pay75, chosen0, pay32_eq]; rfl
/-- What is available after four rounds, -/
theorem after4 : k0_pay76 x0 x1 x2 = after (k0_pay71 x0 x1 x2) (k0_pay72 x0 x1 x2) 4 := by
  rw [k0_pay76, chosen2, after2, pay41_eq]; rfl
/-- and the lane chosen then. -/
theorem chosen4 : k0_pay77 x0 x1 x2 = chosen (k0_pay71 x0 x1 x2) (after (k0_pay71 x0 x1 x2) (k0_pay72 x0 x1 x2) 4) := by
  rw [k0_pay77, chosen2, after2, pay43_eq]; rfl
/-- What is available after six rounds, -/
theorem after6 : k0_pay78 x0 x1 x2 = after (k0_pay71 x0 x1 x2) (k0_pay72 x0 x1 x2) 6 := by
  rw [k0_pay78, chosen4, after4, pay52_eq]; rfl
/-- and the lane chosen then. -/
theorem chosen6 : k0_pay79 x0 x1 x2 = chosen (k0_pay71 x0 x1 x2) (after (k0_pay71 x0 x1 x2) (k0_pay72 x0 x1 x2) 6) := by
  rw [k0_pay79, chosen4, after4, pay54_eq]; rfl

/-- The first lane, which the program reads before it names the priorities. -/
theorem lane0 : k0_pay22 (k0_pay61 x0 x1 x2) (k0_pay62 x0 x1 x2) (k0_pay63 x0 x1 x2) (k0_pay67 x0 x1 x2) (k0_pay68 x0 x1 x2)
    (k0_pay69 x0 x1 x2) (k0_pay70 x0 x1 x2) = lane (k0_pay71 x0 x1 x2) (k0_pay72 x0 x1 x2) := rfl
/-- The first weight likewise. -/
theorem weight0 : k0_pay24 (k0_pay23 (k0_pay60 x0 x1 x2) (k0_pay61 x0 x1 x2) (k0_pay62 x0 x1 x2) (k0_pay63 x0 x1 x2)
    (k0_pay67 x0 x1 x2) (k0_pay68 x0 x1 x2) (k0_pay69 x0 x1 x2) (k0_pay70 x0 x1 x2))
    = weight (k0_pay60 x0 x1 x2) (k0_pay71 x0 x1 x2) (k0_pay72 x0 x1 x2) := rfl

variable (s p a : FX)

/-- The store of the lanes, after six rounds. -/
theorem pay59_eq (l0 l1 l2 l3 l4 l5 l6 : FC) : k0_pay59 p l0 l1 l2 l3 l4 l5 a (chosen p a) l6
    = fptosi 32 (concatenate S1024x8 1 [⟨S1024x1, l0⟩, ⟨S1024x1, l1⟩, ⟨S1024x1, l2⟩, ⟨S1024x1, l3⟩, ⟨S1024x1, l4⟩,
      ⟨S1024x1, l5⟩, ⟨S1024x1, l6⟩, ⟨S1024x1, lane p (next p a)⟩]
      concatenates_S1024x1_S1024x1_S1024x1_S1024x1_S1024x1_S1024x1_S1024x1_S1024x1_S1024x8_d1) := rfl

/-- The block of lanes. -/
theorem words_eq : out0_3 x0 x1 x2 = View.canon [⟨r0_3, words (k0_pay71 x0 x1 x2) (k0_pay72 x0 x1 x2)⟩] := by
  rw [out0_3, chosen0, chosen2, chosen4, chosen6, after2, after4, after6, lane0, pay28_eq, pay33_eq, pay39_eq, pay44_eq,
    pay50_eq, pay55_eq, pay59_eq]; rfl

/-- The store of the weights, after six rounds. -/
theorem pay58_eq (w0 w1 w2 w3 w4 w5 : FC) (b : FX) : k0_pay58 s p w0 w1 w2 w3 w4 w5 (next p (next p b)) (chosen p (next p (next p b))) (k0_pay56 s p b (chosen p b))
    = (fun W => mulf (divf W (broadcastTo S1024x8
    (addf (shapeCast S1024x1 (multiReduction (F := Ideal) (φ := .f32) .add [1] S1024 W 0x00000000#32 reduces_S1024x8_S1024 (.inl rfl) rfl) shapeCasts_S1024_S1024x1)
      (broadcast S1024x1 (Scalar.ofBits .f32 0x1E3CE508#32))) broadcasts_S1024x1_S1024x8))
    (broadcast S1024x8 (Scalar.ofBits .f32 0x40200000#32))) (concatenate S1024x8 1 [⟨S1024x1, w0⟩, ⟨S1024x1, w1⟩, ⟨S1024x1, w2⟩, ⟨S1024x1, w3⟩, ⟨S1024x1, w4⟩,
      ⟨S1024x1, w5⟩, ⟨S1024x1, weight s p (next p (next p b))⟩, ⟨S1024x1, weight s p (next p (next p (next p b)))⟩]
      concatenates_S1024x1_S1024x1_S1024x1_S1024x1_S1024x1_S1024x1_S1024x1_S1024x1_S1024x8_d1) := rfl

/-- The block of weights. -/
theorem weights_eq : out0_4 x0 x1 x2
    = View.canon [⟨r0_3, weights (k0_pay60 x0 x1 x2) (k0_pay71 x0 x1 x2) (k0_pay72 x0 x1 x2)⟩] := by
  rw [out0_4, chosen0, chosen2, chosen4, chosen6, after2, after4, after6, weight0, pay29_eq, pay35_eq, pay40_eq, pay46_eq, pay51_eq]
  generalize k0_pay60 x0 x1 x2 = s
  generalize k0_pay71 x0 x1 x2 = p
  generalize k0_pay72 x0 x1 x2 = a
  exact congrArg (fun v => View.canon [⟨r0_3, v⟩]) (pay58_eq s p _ _ _ _ _ _ (after p a 4))

end Out

end Cert.KernelIdeal.Rounds

end
-- ==== Proof.Row.lean ====
/- The kernel's choosing rounds read on one row: what a round chooses is the expert at the round's place of the selection,
   and the lane, the score and the values left over are read off it. -/
module

public import proofs.«01_k».proof.Proof.Rounds

@[expose] public section

set_option maxRecDepth 16384

noncomputable section

namespace Cert.KernelIdeal.Rounds

open Idealize.ShloMosaic Cert.KernelIdeal Cert.KernelIdeal.Gen Cert.Router

/-- A vector of one number per row and expert. -/
local notation "FX" => FVec Ideal S1024x64 FTy.f32

/-! ## The literals -/

/-- The pattern of minus infinity. -/
theorem lit_bot : Ideal.ofBits .f32 0xFF800000#32 = ⊥ := by simp [Ideal.ofBits, Ideal.ieee]
/-- The pattern of infinity. -/
theorem lit_top : Ideal.ofBits .f32 0x7F800000#32 = ⊤ := by simp [Ideal.ofBits, Ideal.ieee]
/-- The pattern of 4096. -/
theorem lit_4096 : Ideal.ofBits .f32 0x45800000#32 = 4096 := by
  have : Ideal.ofBits .f32 0x45800000#32 = ((4096 : ℝ) : EReal) := by simp [Ideal.ofBits, Ideal.ieee, -EReal.coe_mul]; norm_num
  rw [this]; norm_cast
/-- The pattern of 512. -/
theorem lit_512 : Ideal.ofBits .f32 0x44000000#32 = ((512 : ℝ) : EReal) := by
  simp [Ideal.ofBits, Ideal.ieee, -EReal.coe_mul]; norm_num
/-- The pattern of 1/512. -/
theorem lit_inv512 : Ideal.ofBits .f32 0x3B000000#32 = ((1 / 512 : ℝ) : EReal) := by
  simp [Ideal.ofBits, Ideal.ieee, -EReal.coe_mul]; norm_num
/-- The pattern of 8. -/
theorem lit_8 : Ideal.ofBits .f32 0x41000000#32 = ((8 : ℝ) : EReal) := by
  simp [Ideal.ofBits, Ideal.ieee, -EReal.coe_mul]; norm_num
/-- The pattern of 1/8. -/
theorem lit_inv8 : Ideal.ofBits .f32 0x3E000000#32 = ((1 / 8 : ℝ) : EReal) := by
  simp [Ideal.ofBits, Ideal.ieee, -EReal.coe_mul]; norm_num
/-- The pattern of 4. -/
theorem lit_4 : Ideal.ofBits .f32 0x40800000#32 = ((4 : ℝ) : EReal) := by
  simp [Ideal.ofBits, Ideal.ieee, -EReal.coe_mul]; norm_num
/-- The mask is minus infinity. -/
theorem lit_mask : (Named.named κ "mask" 0xF149F2CA#32 : Ideal .f32) = ⊥ :=
  IdealRules.named_const.ideal_named_scalar κ "mask" _ _ rfl

/-- The whole part of a fraction of natural numbers. -/
theorem floor_part (P d : ℕ) (hd : 0 < d) : ⌊(P : ℝ) * (1 / (d : ℝ))⌋ = ((P / d : ℕ) : ℤ) := by
  have hd' : (0 : ℝ) < d := by exact_mod_cast hd
  rw [Int.floor_eq_iff, mul_one_div, le_div_iff₀ hd', div_lt_iff₀ hd']
  have h1 := Nat.div_mul_le_self P d
  have h2 := Nat.lt_div_mul_add (a := P) hd
  constructor
  · exact_mod_cast h1
  · have : P < (P / d + 1) * d := by rw [Nat.add_mul, Nat.one_mul]; exact h2
    exact_mod_cast this

/-- The rest of a natural number after its whole multiples of 512, as the kernel computes it. -/
theorem rest512 (P : ℕ) : ((P : ℕ) : EReal) - Ideal.liftRound Int.floor (((P : ℕ) : EReal) * ((1 / 512 : ℝ) : EReal)) * ((512 : ℝ) : EReal)
    = ((P - P / 512 * 512 : ℕ) : EReal) := by
  have h1 : ((P : ℕ) : EReal) = ((P : ℝ) : EReal) := by norm_cast
  have h2 : ⌊(P : ℝ) * (1 / 512)⌋ = ((P / 512 : ℕ) : ℤ) := by
    exact floor_part P 512 (by norm_num)
  have h3 : P / 512 * 512 ≤ P := Nat.div_mul_le_self P 512
  rw [h1, ← EReal.coe_mul, Ideal.liftRound_coe, h2, ← EReal.coe_mul, ← EReal.coe_sub]
  have : ((P - P / 512 * 512 : ℕ) : EReal) = (((P - P / 512 * 512 : ℕ) : ℝ) : EReal) := by norm_cast
  rw [this, Nat.cast_sub h3]; push_cast; rfl

/-! ## One round read at a row -/

section Reads
variable (p a s : FX) (r : Fin 1024) (e : Fin 64)

/-- The greatest available value of the row. -/
theorem top_apply : top a (ix2 r e) = Finset.univ.fold max ⊥ (fun l => a (ix2 r l)) := by
  pointwise [top, lit_bot]

/-- The least priority among the lanes that hold it. -/
theorem best_apply : best p a (ix2 r (0 : Fin 1))
    = Finset.univ.fold min ⊤ (fun l => if a (ix2 r l) = top a (ix2 r l) then p (ix2 r l) else 4096) := by
  pointwise [best, lit_top, lit_4096]

/-- The values left: those of the lanes that are not chosen. -/
theorem next_apply : next p a (ix2 r e) = if p (ix2 r e) = best p a (ix2 r (0 : Fin 1)) then ⊥ else a (ix2 r e) := by
  pointwise [next, chosen, lit_mask]

/-- The lane. -/
theorem lane_apply : lane p a (ix2 r (0 : Fin 1))
    = best p a (ix2 r (0 : Fin 1)) - Ideal.liftRound Int.floor (best p a (ix2 r (0 : Fin 1)) * ((1 / 512 : ℝ) : EReal)) * ((512 : ℝ) : EReal) := by
  pointwise [lane, lit_512, lit_inv512]

/-- The weight. -/
theorem weight_apply : weight s p a (ix2 r (0 : Fin 1)) = ∑ l, if p (ix2 r l) = best p a (ix2 r (0 : Fin 1)) then s (ix2 r l) else 0 := by
  pointwise [weight, chosen]

end Reads

/-! ## The eight rounds at a row -/

section Run
variable (p a s : FX) (r : Fin 1024) (G : Fin 8 → EReal) (f : Fin 64 → EReal)
  (hf : ∀ e, f e ≠ ⊥) (hp : ∀ e, p (ix2 r e) = ((prio G e : ℕ) : EReal))
include hf hp

/-- What a round chooses: the priority of the expert at its place. -/
theorem best_place (j : Fin 32) (ha : ∀ e, a (ix2 r e) = avail G f j.val e) :
    best p a (ix2 r (0 : Fin 1)) = ((prio G (place G f j) : ℕ) : EReal) := by
  have ht : ∀ e, top a (ix2 r e) = f (place G f j) := fun e => by
    rw [top_apply]; simp only [ha]; exact max_avail G f j
  rw [best_apply]
  simp only [ht, ha, hp]
  exact min_prio G f hf j

/-- What is available before each round. -/
theorem after_avail (ha : ∀ e, a (ix2 r e) = avail G f 0 e) (k : ℕ) (hk : k ≤ 32) :
    ∀ e, after p a k (ix2 r e) = avail G f k e := by
  induction k with
  | zero => exact ha
  | succ k ih =>
    intro e
    have hb := best_place p (after p a k) r G f hf hp ⟨k, hk⟩ (ih (by omega))
    show next p (after p a k) (ix2 r e) = _
    rw [next_apply, hb, hp, ih (by omega)]
    exact (avail_succ G f ⟨k, hk⟩ e).symm

/-- The lane of each round: the expert at its place. -/
theorem lane_place (ha : ∀ e, a (ix2 r e) = avail G f 0 e) (j : Fin 32) :
    lane p (after p a j.val) (ix2 r (0 : Fin 1)) = (((place G f j).val : ℕ) : EReal) := by
  rw [lane_apply, best_place p _ r G f hf hp j (after_avail p a r G f hf hp ha j.val j.isLt.le), rest512, prio_mod]

/-- The weight of each round: the score of the expert at its place. -/
theorem weight_place (ha : ∀ e, a (ix2 r e) = avail G f 0 e) (j : Fin 32) :
    weight s p (after p a j.val) (ix2 r (0 : Fin 1)) = s (ix2 r (place G f j)) := by
  rw [weight_apply, best_place p _ r G f hf hp j (after_avail p a r G f hf hp ha j.val j.isLt.le)]
  simp only [hp]
  exact sum_choice G f (fun e => s (ix2 r e)) j

end Run

/-! ## The groups at a row -/

/-- An integer word as a number. -/
theorem sitofp_eq (b : BitVec 32) : FloatOps.sitofp (F := Ideal) .f32 b = ((b.toInt : ℝ) : EReal) := rfl

/-- A small natural number kept in a word. -/
theorem sitofp_nat (n : ℕ) (h : n < 2 ^ 31) : FloatOps.sitofp (F := Ideal) .f32 (BitVec.ofNat 32 n) = ((n : ℕ) : EReal) := by
  have : (BitVec.ofNat 32 n).toInt = (n : ℤ) := by
    rw [BitVec.toInt_eq_toNat_cond, BitVec.toNat_ofNat, Nat.mod_eq_of_lt (by omega)]; split <;> omega
  rw [sitofp_eq, this]; norm_cast

/-- The first lane of each lane's group. -/
theorem first_apply (r : Fin 1024) (e : Fin 64) : k0_pay4 (F := Ideal) (ix2 r e) = ((8 * (grp e).val : ℕ) : EReal) := by
  pointwise [k0_pay4, k0_pay3, lit_8, lit_inv8]
  rw [sitofp_nat _ (by omega)]
  have h1 : ((e.val : ℕ) : EReal) = ((e.val : ℝ) : EReal) := by norm_cast
  have h2 : ⌊(e.val : ℝ) * (1 / 8)⌋ = ((e.val / 8 : ℕ) : ℤ) := by exact_mod_cast floor_part e.val 8 (by norm_num)
  rw [h1, ← EReal.coe_mul, Ideal.liftRound_coe, h2, Int.cast_natCast, ← EReal.coe_mul]
  have h3 : ((8 * (grp e).val : ℕ) : EReal) = ((8 * (grp e).val : ℕ) : ℝ) := by norm_cast
  rw [h3, mul_comm, Nat.cast_mul]; rfl

/-- The group number of a lane, as the program computes it in words. -/
theorem grp_word : ∀ x : Fin 64,
    Scalar.select
      (IntOp.andi
        (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          (Scalar.subi (Scalar.extui (Scalar.cmpi CmpIPredicate.sgt 8#32 0#32))
            (Scalar.extui (Scalar.cmpi CmpIPredicate.slt 8#32 0#32))))
        (IntOp.cmpi CmpIPredicate.ne (IntOp.remsi ArithUnit.vector (BitVec.ofNat 32 x.val) 8#32) 0#32))
      (IntOp.subi (IntOp.divsi ArithUnit.vector (BitVec.ofNat 32 x.val) 8#32) 1#32)
      (IntOp.divsi ArithUnit.vector (BitVec.ofNat 32 x.val) 8#32) = BitVec.ofNat 32 (grp x).val := by
  decide +kernel

/-- Two lanes compared by their group, as a word. -/
theorem same_word : ∀ g h : Fin 8,
    BitVec.setWidth 32 (IntOp.cmpi CmpIPredicate.eq (BitVec.ofNat 32 g.val) (BitVec.ofNat 32 h.val))
      = if g = h then 1#32 else 0#32 := by
  decide +kernel

/-- The program's group sums, spread over the lanes: at each lane the sum over the lanes of its group. -/
theorem gs_apply (v : FX) (r : Fin 1024) (e : Fin 64) :
    k0_pay8 v k0_pay5 k0_pay6 k0_pay7 (ix2 r e) = groupSum (fun l => v (ix2 r l)) (grp e) := by
  pointwise [k0_pay8, k0_pay5, k0_pay6, k0_pay7]
  simp only [grp_word, same_word]
  rw [groupSum_eq]
  refine Finset.sum_congr rfl fun x _ => ?_
  by_cases h : grp x = grp e
  · rw [if_pos h, if_pos h, sitofp_nat 1 (by norm_num), Nat.cast_one, mul_one]
  · rw [if_neg h, if_neg h, sitofp_nat 0 (by norm_num), Nat.cast_zero, mul_zero]

/-- One bit of the group ranking: whether group `j` is taken before the lane's own. -/
theorem rank_bit (G : Fin 8 → EReal) (j b : Fin 8) (c d : EReal) (hc : c = ((8 * j.val : ℕ) : EReal)) (hd : d = ((8 * b.val : ℕ) : EReal))
    [D : Decidable (Beats G j b)] :
    FloatOps.sitofp (F := Ideal) FTy.f32 (BitVec.setWidth 32 (IntOp.ori (BitVec.ofBool (decide (G b < G j)))
      (IntOp.andi (BitVec.ofBool (decide (G j = G b))) (BitVec.ofBool (decide (c < d))))))
      = if Beats G j b then 1 else 0 := by
  have h : (c < d) ↔ j < b := by
    rw [hc, hd, Nat.cast_lt, Fin.lt_def]; omega
  have hB : Beats G j b ↔ (G b < G j ∨ (G j = G b ∧ c < d)) := by rw [h]; rfl
  have key : ∀ x y z : Bool, BitVec.setWidth 32 (IntOp.ori (BitVec.ofBool x) (IntOp.andi (BitVec.ofBool y) (BitVec.ofBool z)))
      = BitVec.ofNat 32 (if (x || (y && z)) = true then 1 else 0) := by decide +kernel
  rw [key, sitofp_nat _ (by split <;> norm_num)]
  have hd' : (decide (G b < G j) || (decide (G j = G b) && decide (c < d))) = true ↔ Beats G j b := by
    rw [hB]; simp
  by_cases hb : Beats G j b
  · rw [if_pos hb, if_pos (hd'.mpr hb)]; norm_cast
  · rw [if_neg hb, if_neg (fun h' => hb (hd'.mp h'))]; norm_cast

/-- The pattern of each group's first lane. -/
theorem lit_first : ∀ j : Fin 8, Ideal.ofBits .f32
    ((![0x00000000#32, 0x41000000#32, 0x41800000#32, 0x41C00000#32, 0x42000000#32, 0x42200000#32, 0x42400000#32, 0x42600000#32] : Fin 8 → BitVec 32) j)
    = ((8 * j.val : ℕ) : EReal) := fun j => by
  have h3 : ((8 * j.val : ℕ) : EReal) = ((8 * j.val : ℕ) : ℝ) := by norm_cast
  rw [h3]
  fin_cases j <;> simp [Ideal.ofBits, Ideal.ieee, -EReal.coe_mul] <;> norm_num

/-- The ranks: at each lane the place of its group. -/
theorem ranks_apply (g v : FX) (r : Fin 1024) (e : Fin 64) (G : Fin 8 → EReal) (hv : ∀ l, v (ix2 r l) = G (grp l))
    (hg : g (ix2 r e) = ((8 * (grp e).val : ℕ) : EReal)) : ranks g v (ix2 r e) = ((gpos G e : ℕ) : EReal) := by
  classical
  have hbit := fun j : Fin 8 => rank_bit G j (grp e) _ _ (lit_first j) hg
  have hsum : (∑ j : Fin 8, if Beats G j (grp e) then (1 : EReal) else 0) = ((gpos G e : ℕ) : EReal) := by
    rw [Finset.sum_boole, card_beats]; rfl
  rw [← hsum, ← Finset.sum_congr rfl fun j _ => hbit j, Fin.sum_univ_eight]
  pointwise [ranks, step, hv]
  rfl

/-- The priorities. -/
theorem prio_apply (x0 : Vec Ideal S1024x4096 .f32) (x1 : Vec Ideal S4096x64 .f32) (x2 : Vec Ideal S1x64 .f32) (r : Fin 1024) (e : Fin 64)
    (G : Fin 8 → EReal) (hG : G = groupSum (fun l => k0_pay61 x0 x1 x2 (ix2 r l))) :
    k0_pay71 x0 x1 x2 (ix2 r e) = ((prio G e : ℕ) : EReal) := by
  have hr := ranks_apply (k0_pay4 (F := Ideal)) (k0_pay67 x0 x1 x2) r e G (fun l => by rw [hG]; exact gs_apply _ r l) (first_apply r e)
  rw [prio_eq]
  pointwise [hr, k0_pay3, lit_512]
  rw [sitofp_nat _ (by omega)]
  unfold prio
  have h : ((gpos G e * 512 + e.val : ℕ) : EReal) = ((gpos G e : ℕ) : EReal) * ((512 : ℕ) : EReal) + ((e.val : ℕ) : EReal) := by push_cast; rfl
  rw [h]; norm_cast

/-- The values available at first. -/
theorem avail_apply (x0 : Vec Ideal S1024x4096 .f32) (x1 : Vec Ideal S4096x64 .f32) (x2 : Vec Ideal S1x64 .f32) (r : Fin 1024) (e : Fin 64)
    (G : Fin 8 → EReal) (hG : G = groupSum (fun l => k0_pay61 x0 x1 x2 (ix2 r l))) :
    k0_pay72 x0 x1 x2 (ix2 r e) = avail G (fun l => k0_pay61 x0 x1 x2 (ix2 r l)) 0 e := by
  have hr := ranks_apply (k0_pay4 (F := Ideal)) (k0_pay67 x0 x1 x2) r e G (fun l => by rw [hG]; exact gs_apply _ r l) (first_apply r e)
  rw [avail_eq, avail_zero]
  pointwise [hr, lit_4, lit_mask]
  have h4 : ((gpos G e : ℕ) : EReal) < ((4 : ℝ) : EReal) ↔ gpos G e < 4 := by
    have : ((4 : ℝ) : EReal) = ((4 : ℕ) : EReal) := by norm_cast
    rw [this, Nat.cast_lt]
  simp only [h4]

/-! ## The two blocks at a row -/

/-- A small natural number turned into a word. -/
theorem fptosi_nat (n : ℕ) (h : n < 64) : Ideal.fptosi 32 ((n : ℕ) : EReal) = BitVec.ofNat 32 n := by
  have h1 : ((n : ℕ) : EReal) = ((n : ℝ) : EReal) := by norm_cast
  have h2 : ⌊(n : ℝ)⌋ = (n : ℤ) := Int.floor_natCast n
  rw [h1, Ideal.fptosi, Ideal.toIntClamped_coe, if_pos (Nat.cast_nonneg n), h2, min_eq_right (by norm_num; omega), max_eq_right (by norm_num)]
  exact BitVec.ofInt_natCast 32 n

/-- The lanes' block: at each row and round the expert at the round's place. -/
theorem words_apply (p a : FX) (r : Fin 1024) (G : Fin 8 → EReal) (f : Fin 64 → EReal) (hf : ∀ e, f e ≠ ⊥)
    (hp : ∀ e, p (ix2 r e) = ((prio G e : ℕ) : EReal)) (ha : ∀ e, a (ix2 r e) = avail G f 0 e) (k : Fin 8) :
    words p a (ix2 r k) = BitVec.ofNat 32 (place G f ⟨k.val, by omega⟩).val := by
  have hl := fun k : Fin 8 => lane_place p a r G f hf hp ha ⟨k.val, by omega⟩
  rw [← fptosi_nat _ (place G f ⟨k.val, by omega⟩).isLt, ← hl]
  pointwise [words]
  fin_cases k <;> rfl

/-- The chosen scores: at each row and round the score of the expert at the round's place. -/
theorem picked_apply (s p a : FX) (r : Fin 1024) (G : Fin 8 → EReal) (f : Fin 64 → EReal) (hf : ∀ e, f e ≠ ⊥)
    (hp : ∀ e, p (ix2 r e) = ((prio G e : ℕ) : EReal)) (ha : ∀ e, a (ix2 r e) = avail G f 0 e) (k : Fin 8) :
    picked s p a (ix2 r k) = s (ix2 r (place G f ⟨k.val, by omega⟩)) := by
  have hl := fun k : Fin 8 => weight_place p a s r G f hf hp ha ⟨k.val, by omega⟩
  rw [← hl]
  pointwise [picked]
  fin_cases k <;> rfl

/-- The weights' block: the chosen score over the sum of the chosen scores, scaled. -/
theorem weights_apply (s p a : FX) (r : Fin 1024) (G : Fin 8 → EReal) (f : Fin 64 → EReal) (hf : ∀ e, f e ≠ ⊥)
    (hp : ∀ e, p (ix2 r e) = ((prio G e : ℕ) : EReal)) (ha : ∀ e, a (ix2 r e) = avail G f 0 e) (k : Fin 8) :
    weights s p a (ix2 r k) = share (fun k => s (ix2 r (place G f ⟨k.val, by omega⟩))) k := by
  have hl := picked_apply s p a r G f hf hp ha
  pointwise [weights, hl]
  rfl

/-- The scores. -/
theorem score_apply (x0 : Vec Ideal S1024x4096 .f32) (x1 : Vec Ideal S4096x64 .f32) (r : Fin 1024) (e : Fin 64) :
    k0_pay1 x0 x1 (ix2 r e) = Ideal.logistic (∑ d : Fin 4096, x0 (ix2 r d) * x1 (ix2 d e)) := by
  pointwise [k0_pay1]

/-- The scores with the bias. -/
theorem biased_apply (x0 : Vec Ideal S1024x4096 .f32) (x1 : Vec Ideal S4096x64 .f32) (x2 : Vec Ideal S1x64 .f32) (r : Fin 1024) (e : Fin 64) :
    k0_pay2 x0 x1 x2 (ix2 r e) = Ideal.logistic (∑ d : Fin 4096, x0 (ix2 r d) * x1 (ix2 d e)) + x2 (ix2 (0 : Fin 1) e) := by
  pointwise [k0_pay2, score_apply]

end Cert.KernelIdeal.Rounds

end
-- ==== Proof.Kernel.lean ====
/- The kernel's run: each of the two result arrays as one function of the argument arrays. Every grid point writes its 1024
   rows of both, and the eight points fill the arrays. -/
module

public import proofs.«01_k».proof.Proof.Row
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Router

/-- The scores of token `t`. -/
def scores (hs : FVec Ideal Cert.KernelIdeal.S8192x4096 .f32) (w : FVec Ideal Cert.KernelIdeal.S64x4096 .f32) (t : Fin 8192) (e : Fin 64) : EReal :=
  Ideal.logistic (∑ d : Fin 4096, hs (ix2 t d) * w (ix2 e d))

/-- The biased scores of token `t`. -/
def biased (hs : FVec Ideal Cert.KernelIdeal.S8192x4096 .f32) (w : FVec Ideal Cert.KernelIdeal.S64x4096 .f32) (b : FVec Ideal Cert.KernelIdeal.S64 .f32)
    (t : Fin 8192) (e : Fin 64) : EReal := scores hs w t e + b (ix1 e)

/-- A score is never minus infinity. -/
theorem logistic_ne_bot (x : EReal) : Ideal.logistic x ≠ ⊥ := by
  have he : (0 : EReal) ≤ Ideal.exp (-x) := by
    induction (-x) with
    | bot => exact le_refl _
    | top => exact le_top
    | coe r => exact EReal.coe_nonneg.mpr (Real.exp_pos r).le
  have hy : (0 : EReal) < 1 + Ideal.exp (-x) := lt_of_lt_of_le zero_lt_one (le_add_of_nonneg_right he)
  have h : (0 : EReal) ≤ Ideal.logistic x := by
    unfold Ideal.logistic Ideal.div
    rw [if_neg hy.ne', one_mul]
    exact EReal.inv_nonneg_of_nonneg hy.le
  exact (lt_of_lt_of_le EReal.bot_lt_zero h).ne'

end Cert.Router

namespace Cert.KernelIdeal.RefValue

open Cert.KernelIdeal Cert.KernelIdeal.Gen Cert.KernelIdeal.Rounds Cert.Router

variable (m : (ℓ : Loc nD τ sig) → Buf (Elt Ideal) ℓ) (ρ : Dev nD → PrngReg)

/-- The tokens, one per row. -/
abbrev tokens (c : Dev nD) : FVec Ideal S8192x4096 .f32 := shapeCast S8192x4096 (m ((c : Thread nD τ).loc main_arg0)) shapeCasts_S4x2048x4096_S8192x4096

/-- The weights, one expert per row. -/
abbrev wts (c : Dev nD) : FVec Ideal S64x4096 .f32 := m ((c : Thread nD τ).loc main_arg1)

/-- The bias. -/
abbrev bias (c : Dev nD) : FVec Ideal S64 .f32 := m ((c : Thread nD τ).loc main_arg2)

/-- The first window's array: the tokens. -/
theorem V_v0 (c : Dev nD) : V m c main_v0 = tokens m c := by
  unfold V hostOps0
  after_results
  rfl

/-- The second window's: the weights, one expert per column. -/
theorem V_v1 (c : Dev nD) (d : Fin 4096) (e : Fin 64) : V m c main_v1 (ix2 d e) = wts m c (ix2 e d) := by
  unfold V hostOps0
  after_results
  show transpose S4096x64 [1, 0] (wts m c) transposes_S64x4096_S4096x64_1_0 (ix2 d e) = _
  pointwise

/-- The third window's: the bias as one row. -/
theorem V_v2 (c : Dev nD) (e : Fin 64) : V m c main_v2 (ix2 (0 : Fin 1) e) = bias m c (ix1 e) := by
  unfold V hostOps0
  after_results
  show shapeCast S1x64 (bias m c) shapeCasts_S64_S1x64 (ix2 (0 : Fin 1) e) = _
  pointwise

/-- The windows' blocks, in units of themselves: the tokens and both results move with the point, the weights and the bias
    stay. -/
theorem blocks : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0
    ∧ win0_4.index t 0 = t.val ∧ win0_4.index t 1 = 0 := by decide +kernel

/-- The grid's points are eight. -/
theorem point_lt (t : Fin cfg0.N) : t.val < 8 := lt_of_lt_of_eq t.isLt N_0

/-- Row `r` of point `t`. -/
def row (t : Fin cfg0.N) (r : Fin 1024) : Fin 8192 := ⟨t.val * 1024 + r.val, by have := point_lt t; omega⟩

/-- The tokens' block at a point. -/
theorem iblk0_apply (c : Dev nD) (t : Fin cfg0.N) (r : Fin 1024) (d : Fin 4096) :
    iblk m c 0 t (ix2 r d) = tokens m c (ix2 (row t r) d) := by
  obtain ⟨e0, e1, _⟩ := blocks t
  rw [← V_v0]
  show V m c main_v0 (((cfg0.win 0).blk t).view.emb (ix2 r d)) = _
  refine congrArg _ (funext fun a => Fin.ext ?_)
  match a with
  | ⟨0, _⟩ => show win0_0.index t (0 : Fin 2) * 1024 + 1 * r.val = t.val * 1024 + r.val; rw [e0, one_mul]
  | ⟨1, _⟩ => show win0_0.index t (1 : Fin 2) * 4096 + 1 * d.val = d.val; rw [e1]; omega

/-- The weights' block at a point: all of them. -/
theorem iblk1_apply (c : Dev nD) (t : Fin cfg0.N) (d : Fin 4096) (e : Fin 64) :
    iblk m c 1 t (ix2 d e) = wts m c (ix2 e d) := by
  obtain ⟨_, _, e0, e1, _⟩ := blocks t
  rw [← V_v1 m c]
  show V m c main_v1 (((cfg0.win 1).blk t).view.emb (ix2 d e)) = _
  refine congrArg _ (funext fun a => Fin.ext ?_)
  match a with
  | ⟨0, _⟩ => show win0_1.index t (0 : Fin 2) * 4096 + 1 * d.val = d.val; rw [e0]; omega
  | ⟨1, _⟩ => show win0_1.index t (1 : Fin 2) * 64 + 1 * e.val = e.val; rw [e1]; omega

/-- The bias's block at a point: all of it. -/
theorem iblk2_apply (c : Dev nD) (t : Fin cfg0.N) (e : Fin 64) :
    iblk m c 2 t (ix2 (0 : Fin 1) e) = bias m c (ix1 e) := by
  obtain ⟨_, _, _, _, e0, e1, _⟩ := blocks t
  rw [← V_v2 m c]
  show V m c main_v2 (((cfg0.win 2).blk t).view.emb (ix2 (0 : Fin 1) e)) = _
  refine congrArg _ (funext fun a => Fin.ext ?_)
  match a with
  | ⟨0, _⟩ => show win0_2.index t (0 : Fin 2) * 1 + 1 * 0 = 0; rw [e0]
  | ⟨1, _⟩ => show win0_2.index t (1 : Fin 2) * 64 + 1 * e.val = e.val; rw [e1]; omega

/-- The origin of a block. -/
theorem hz : (![0, 0] : Fin 2 → Nat) = fun _ => 0 := funext fun a => by fin_cases a <;> rfl

/-- The scores a point computes. -/
theorem score_iblk (c : Dev nD) (t : Fin cfg0.N) (r : Fin 1024) (e : Fin 64) :
    k0_pay60 (iblk m c 0 t) (iblk m c 1 t) (iblk m c 2 t) (ix2 r e)
      = scores (tokens m c) (wts m c) (row t r) e := by
  unfold k0_pay60
  rw [View.ld_unit_zero hz, View.ld_unit_zero hz, score_apply]
  simp only [iblk0_apply, iblk1_apply]
  rfl

/-- The biased scores a point computes. -/
theorem biased_iblk (c : Dev nD) (t : Fin cfg0.N) (r : Fin 1024) (e : Fin 64) :
    k0_pay61 (iblk m c 0 t) (iblk m c 1 t) (iblk m c 2 t) (ix2 r e)
      = biased (tokens m c) (wts m c) (bias m c) (row t r) e := by
  unfold k0_pay61
  rw [View.ld_unit_zero hz, View.ld_unit_zero hz, View.ld_unit_zero hz, biased_apply]
  simp only [iblk0_apply, iblk1_apply, iblk2_apply]
  rfl

/-- The first result: each token's experts. -/
def experts (c : Dev nD) : IVec S8192x8 32 := fun i =>
  BitVec.ofNat 32 (expert (biased (tokens m c) (wts m c) (bias m c) (i 0)) (i 1)).val

/-- The second result: each token's weights. -/
def shares (c : Dev nD) : FVec Ideal S8192x8 .f32 := fun i =>
  share (fun k => scores (tokens m c) (wts m c) (i 0)
    (expert (biased (tokens m c) (wts m c) (bias m c) (i 0)) k)) (i 1)

/-- The bias is above minus infinity everywhere. -/
def BiasAbove (c : Dev nD) : Prop := ∀ e : Fin 64, bias m c (ix1 e) ≠ ⊥

/-- So no biased score is minus infinity. -/
theorem biased_ne_bot (c : Dev nD) (hb : BiasAbove m c) (t : Fin 8192) (e : Fin 64) :
    biased (tokens m c) (wts m c) (bias m c) t e ≠ ⊥ := fun h => by
  unfold biased at h
  rcases EReal.add_eq_bot_iff.mp h with h | h
  · exact logistic_ne_bot _ h
  · exact hb e h

/-- What a point writes of the first result. -/
theorem words_iblk (c : Dev nD) (hb : BiasAbove m c) (t : Fin cfg0.N) (r : Fin 1024) (k : Fin 8) :
    words (k0_pay71 (iblk m c 0 t) (iblk m c 1 t) (iblk m c 2 t)) (k0_pay72 (iblk m c 0 t) (iblk m c 1 t) (iblk m c 2 t)) (ix2 r k)
      = experts m c (ix2 (row t r) k) := by
  have hB := funext fun e => biased_iblk m c t r e
  rw [words_apply _ _ r _ _ (biased_ne_bot m c hb (row t r)) (fun e => prio_apply _ _ _ r e _ (by rw [hB]))
    (fun e => by rw [avail_apply _ _ _ r e _ rfl, hB])]
  rfl

/-- What a point writes of the second. -/
theorem weights_iblk (c : Dev nD) (hb : BiasAbove m c) (t : Fin cfg0.N) (r : Fin 1024) (k : Fin 8) :
    weights (k0_pay60 (iblk m c 0 t) (iblk m c 1 t) (iblk m c 2 t)) (k0_pay71 (iblk m c 0 t) (iblk m c 1 t) (iblk m c 2 t))
      (k0_pay72 (iblk m c 0 t) (iblk m c 1 t) (iblk m c 2 t)) (ix2 r k)
      = shares m c (ix2 (row t r) k) := by
  have hB := funext fun e => biased_iblk m c t r e
  rw [weights_apply _ _ _ r _ _ (biased_ne_bot m c hb (row t r)) (fun e => prio_apply _ _ _ r e _ (by rw [hB]))
    (fun e => by rw [avail_apply _ _ _ r e _ rfl, hB])]
  simp only [score_iblk]
  rfl

/-- A place in a result's block, in the array. -/
theorem emb3 (t : Fin cfg0.N) (r : Fin 1024) (k : Fin 8) : ((cfg0.win 3).blk t).view.emb (ix2 r k) = ix2 (row t r) k := by
  obtain ⟨_, _, _, _, _, _, e0, e1, _⟩ := blocks t
  refine funext fun a => Fin.ext ?_
  match a with
  | ⟨0, _⟩ => show win0_3.index t (0 : Fin 2) * 1024 + 1 * r.val = t.val * 1024 + r.val; rw [e0, one_mul]
  | ⟨1, _⟩ => show win0_3.index t (1 : Fin 2) * 8 + 1 * k.val = k.val; rw [e1]; omega

/-- The other result's likewise. -/
theorem emb4 (t : Fin cfg0.N) (r : Fin 1024) (k : Fin 8) : ((cfg0.win 4).blk t).view.emb (ix2 r k) = ix2 (row t r) k := by
  obtain ⟨_, _, _, _, _, _, _, _, e0, e1⟩ := blocks t
  refine funext fun a => Fin.ext ?_
  match a with
  | ⟨0, _⟩ => show win0_4.index t (0 : Fin 2) * 1024 + 1 * r.val = t.val * 1024 + r.val; rw [e0, one_mul]
  | ⟨1, _⟩ => show win0_4.index t (1 : Fin 2) * 8 + 1 * k.val = k.val; rw [e1]; omega

/-- An index of a block is a row and a round. -/
theorem idx_block (j : S1024x8.Idx) : ∃ (r : Fin 1024) (k : Fin 8), j = ix2 r k :=
  ⟨j 0, j 1, by funext a; fin_cases a <;> rfl⟩

/-- An index of a result is a token and a round. -/
theorem idx_result (i : S8192x8.Idx) : ∃ (q : Fin 8192) (k : Fin 8), i = ix2 q k :=
  ⟨i 0, i 1, by funext a; fin_cases a <;> rfl⟩

/-- What is written back of the first result is its block of the array. -/
theorem flushed3 (c : Dev nD) (hb : BiasAbove m c) (t : Fin cfg0.N) :
    (dats m 0 c).flushed 3 t = ((cfg0.win 3).blk t).view.read (Elt Ideal) (experts m c) := by
  show (cfg0.win 3).cut (grid0.coords t) ((dats m 0 c).after 3 t) = _
  rw [after0_3, words_eq, View.canon_unit_zero hz]
  funext j
  show words _ _ j = experts m c (((cfg0.win 3).blk t).view.emb j)
  obtain ⟨r, k, rfl⟩ := idx_block j
  rw [emb3]
  exact words_iblk m c hb t r k

/-- And of the second. -/
theorem flushed4 (c : Dev nD) (hb : BiasAbove m c) (t : Fin cfg0.N) :
    (dats m 0 c).flushed 4 t = ((cfg0.win 4).blk t).view.read (Elt Ideal) (shares m c) := by
  show (cfg0.win 4).cut (grid0.coords t) ((dats m 0 c).after 4 t) = _
  rw [after0_4, weights_eq, View.canon_unit_zero hz]
  funext j
  show weights _ _ _ j = shares m c (((cfg0.win 4).blk t).view.emb j)
  obtain ⟨r, k, rfl⟩ := idx_block j
  rw [emb4]
  exact weights_iblk m c hb t r k

/-- The point that writes a row, and the row in its block. -/
theorem row_split (q : Fin 8192) : ∃ (t : Fin cfg0.N) (r : Fin 1024), row t r = q :=
  ⟨⟨q.val / 1024, by have : cfg0.N = 8 := N_0; omega⟩, ⟨q.val % 1024, by omega⟩, Fin.ext (by show q.val / 1024 * 1024 + q.val % 1024 = _; omega)⟩

/-- The first result's blocks fill its array. -/
theorem cover3 (i : S8192x8.Idx) : ∃ t : Fin cfg0.N, (cfg0.win 3).flush t = true ∧ i ∈ ((cfg0.win 3).blk t).view.set := by
  obtain ⟨q, k, rfl⟩ := idx_result i
  obtain ⟨t, r, rfl⟩ := row_split q
  refine ⟨t, flush0_3 t, ?_⟩
  rw [← emb3 t r k]
  exact View.emb_mem_set _ _

/-- The second result's likewise. -/
theorem cover4 (i : S8192x8.Idx) : ∃ t : Fin cfg0.N, (cfg0.win 4).flush t = true ∧ i ∈ ((cfg0.win 4).blk t).view.set := by
  obtain ⟨q, k, rfl⟩ := idx_result i
  obtain ⟨t, r, rfl⟩ := row_split q
  refine ⟨t, flush0_4 t, ?_⟩
  rw [← emb4 t r k]
  exact View.emb_mem_set _ _

/-- So the first result ends at each token's experts, -/
theorem final3 (c : Dev nD) (hb : BiasAbove m c) : (dats m 0 c).arrAt 3 cfg0.N = experts m c :=
  (dats m 0 c).arrAt_eq_of_cover 3 (experts m c) (fun t _ => flushed3 m c hb t) cover3

/-- the second at each token's weights, -/
theorem final4 (c : Dev nD) (hb : BiasAbove m c) : (dats m 0 c).arrAt 4 cfg0.N = shares m c :=
  (dats m 0 c).arrAt_eq_of_cover 4 (shares m c) (fun t _ => flushed4 m c hb t) cover4

/-- and the run leaves both, the arguments unchanged. -/
theorem run (hb : ∀ c, BiasAbove m c) : θ_run defs (onTc (τ := τ) (main (F := Ideal))) ⟨m, fun _ => 0, ρ⟩ fun r => ∀ c : Dev nD,
      r.2.mem ((c : Thread nD τ).loc main_v3_0) = experts m c
      ∧ r.2.mem ((c : Thread nD τ).loc main_v3_1) = shares m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final3 m c (hb c)), ((h c).1 4).trans (final4 m c (hb c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.RefValue

end
-- ==== Proof.Reference.lean ====
/- The reference's two results at an index: the routing read one operation at a time, down to the shared description. -/
module

public import proofs.«01_k».proof.Proof.Gen.ReferenceIdeal.Read
public import proofs.«01_k».proof.Proof.Kernel
public import Idealize.ShloMosaic.Lib.Pointwise
public import Idealize.ShloMosaic.Lib.ReduceAll

@[expose] public section

set_option maxRecDepth 16384

noncomputable section

open Idealize.ShloMosaic Idealize.ShloMosaic.TcCoe Idealize.SL.Sem

namespace Cert.ReferenceIdeal.Routing

open Cert.ReferenceIdeal Cert.ReferenceIdeal.Gen Cert.ReferenceIdeal.Read Cert.Router

/-- The total order's comparison of two numbers. -/
theorem gt_total (a b : EReal) : ((FloatOps.cmpfTotal (F := Ideal) (φ := .f32) .gt a b : BitVec 1) == 1#1) = decide (b < a) := by
  show (BitVec.ofBool (decide (b < a)) == 1#1) = decide (b < a)
  by_cases h : b < a <;> simp [h]

/-- The indices of the greatest elements of a row: the row's elements in order, equal ones by position. -/
theorem top_words {R n k : ℕ} (hk : k ≤ n) (x : FVec Ideal ⟨2, ![R, n]⟩ .f32) (h : (⟨2, ![R, n]⟩ : Shape).Slices (fun _ => 0) ⟨2, ![R, k]⟩)
    (t : Fin R) (j : Fin k) :
    (Host.topK ⟨2, ![R, k]⟩ 1 (FloatOps.cmpfTotal (F := Ideal) (φ := .f32) .gt) x h).2 (ix2 t j)
      = BitVec.ofNat 32 (perm (fun i : Fin n => x (ix2 t i)) ⟨j.val, j.isLt.trans_le hk⟩).val := by
  have ha : ∀ i : Fin n, Shape.Idx.along (s := ⟨2, ![R, n]⟩) (ix2 t ⟨j.val, j.isLt.trans_le hk⟩) 1 i = ix2 t i := by
    intro i; funext a; fin_cases a <;> rfl
  have hs : (Host.topK ⟨2, ![R, k]⟩ 1 (FloatOps.cmpfTotal (F := Ideal) (φ := .f32) .gt) x h).2 (ix2 t j)
      = (Host.sort2 ⟨2, ![R, n]⟩ 1 (fun l r : EReal × BitVec 32 => FloatOps.cmpfTotal (F := Ideal) (φ := .f32) .gt l.1 r.1) x
          (fun i => iotaInDim ⟨2, ![R, n]⟩ 32 1 i)).2 (ix2 t ⟨j.val, j.isLt.trans_le hk⟩) := by
    unfold Host.topK
    refine congrArg (Host.sort2 ⟨2, ![R, n]⟩ 1 (fun l r : EReal × BitVec 32 => FloatOps.cmpfTotal (F := Ideal) (φ := .f32) .gt l.1 r.1) x
          (fun i => iotaInDim ⟨2, ![R, n]⟩ 32 1 i)).2 ?_
    funext a; fin_cases a <;> (apply Fin.ext; simp [ix2])
  rw [hs]
  show iotaInDim ⟨2, ![R, n]⟩ 32 1 (Shape.Idx.along (s := ⟨2, ![R, n]⟩) (ix2 t ⟨j.val, j.isLt.trans_le hk⟩) 1
    (sortedFrom (fun i i' : Fin n => ((FloatOps.cmpfTotal (F := Ideal) (φ := .f32) .gt
      (x (Shape.Idx.along (s := ⟨2, ![R, n]⟩) (ix2 t ⟨j.val, j.isLt.trans_le hk⟩) 1 i))
      (x (Shape.Idx.along (s := ⟨2, ![R, n]⟩) (ix2 t ⟨j.val, j.isLt.trans_le hk⟩) 1 i')) : BitVec 1) == 1#1)) ⟨j.val, j.isLt.trans_le hk⟩)) = _
  simp only [ha, gt_total]
  rfl

/-- Reading a group's row of biased scores at a word in range. -/
theorem gather_group (idx : IVec S8192x4x1 32) (t : Fin 8192) (a : Fin 4) (l : Fin 8) (n : Fin 8)
    (hn : idx (ix3 t a 0) = BitVec.ofNat 32 n.val) :
    gather_S8192x8x8_S8192x4x1_S8192x4x8_2_1_0_0_1_2_118.operandIdx (ix3 t a l) idx = ix3 t n l := by
  have hw : min (BitVec.ofNat 32 n.val).toInt.toNat 7 = n.val := by
    clear hn; revert n; decide +kernel
  have hi : ∀ c, gather_S8192x8x8_S8192x4x1_S8192x4x8_2_1_0_0_1_2_118.siIdx (ix3 t a l) c = ix3 t a 0 := by
    intro c
    funext b
    fin_cases b
    · rfl
    · rfl
    · exact Fin.ext (by have := c.isLt; change c.val < 1 at this; show c.val = 0; omega)
  have h1 : gather_S8192x8x8_S8192x4x1_S8192x4x8_2_1_0_0_1_2_118.start (ix3 t a l) idx 1 = n.val := by
    unfold GatherDims.start
    rw [dif_pos (by decide), hi, hn]
    exact hw
  funext b
  fin_cases b
  · apply Fin.ext
    show 0 + t.val + 0 = t.val
    omega
  · apply Fin.ext
    show gather_S8192x8x8_S8192x4x1_S8192x4x8_2_1_0_0_1_2_118.start (ix3 t a l) idx 1 + 0 + 0 = n.val
    rw [h1]
    rfl
  · apply Fin.ext
    show 0 + 0 + l.val = l.val
    omega

section Words

variable {n : ℕ} (wf : GatherDims.WF ⟨2, ![8192, n]⟩ S8192x8x1 S8192x8 [] [1] [0] [1] [0] 2 ![1, 1])

/-- Picking one element per position from the rows of a matrix. -/
abbrev pick : GatherDims ⟨2, ![8192, n]⟩ S8192x8x1 S8192x8 where
  offsetDims := []
  collapsedSliceDims := [1]
  operandBatchingDims := [0]
  startIndicesBatchingDims := [0]
  startIndexMap := [1]
  indexVectorDim := 2
  sliceSizes := ![1, 1]
  wf := wf

/-- Reading one element of a row at a word in range. -/
theorem pick_index (hn : n ≤ 64) (idx : IVec S8192x8x1 32) (t : Fin 8192) (k : Fin 8) (i : Fin n)
    (hi : idx (ix3 t k 0) = BitVec.ofNat 32 i.val) : (pick wf).operandIdx (ix2 t k) idx = ix2 t i := by
  have hw : (BitVec.ofNat 32 i.val).toInt.toNat = i.val := by
    have h : ∀ j : Fin 64, (BitVec.ofNat 32 j.val).toInt.toNat = j.val := by decide +kernel
    exact h ⟨i.val, i.isLt.trans_le hn⟩
  have hs : ∀ c, (pick wf).siIdx (ix2 t k) c = ix3 t k 0 := by
    intro c
    funext b
    fin_cases b
    · rfl
    · rfl
    · exact Fin.ext (by have := c.isLt; change c.val < 1 at this; show c.val = 0; omega)
  have h1 : (pick wf).start (ix2 t k) idx 1 = i.val := by
    unfold GatherDims.start
    rw [dif_pos (List.mem_singleton.mpr rfl), hs, hi, hw]
    exact Nat.min_eq_left (Nat.le_sub_one_of_lt i.isLt)
  funext b
  fin_cases b
  · apply Fin.ext
    show 0 + t.val + 0 = t.val
    omega
  · apply Fin.ext
    show (pick wf).start (ix2 t k) idx 1 + 0 + 0 = i.val
    rw [h1]
    rfl

end Words

/-- A small word is not negative. -/
theorem not_negative : ∀ n : Fin 64, IntOp.cmpi .slt (BitVec.ofNat 32 n.val) 0#32 = 0#1 := by decide +kernel
/-- A word from zero to its bound passes the range check. -/
theorem in_range (b n : Fin 64) (h : n.val ≤ b.val) : IntOp.andi (IntOp.cmpi .sge (BitVec.ofNat 32 n.val) 0#32)
    (IntOp.cmpi .sle (BitVec.ofNat 32 n.val) (BitVec.ofNat 32 b.val)) = 1#1 := by
  revert b n
  decide +kernel

/-- The reference's scores. -/
theorem scores_at (x0 : FVec Ideal S4x2048x4096 .f32) (x1 : FVec Ideal S64x4096 .f32) (t : Fin 8192) (e : Fin 64) :
    val_main_v8 (F := Ideal) x0 x1 (ix2 t e) = scores (shapeCast S8192x4096 x0 shapeCasts_S4x2048x4096_S8192x4096) x1 t e := by
  have h0 : val_main_v0 (F := Ideal) x0 = shapeCast S8192x4096 x0 shapeCasts_S4x2048x4096_S8192x4096 := rfl
  unfold val_main_v8 val_main_v6 val_main_v7 val_main_v5 val_main_v4 val_main_v3 val_main_v2 val_main_v1
  rw [h0]
  generalize shapeCast S8192x4096 x0 shapeCasts_S4x2048x4096_S8192x4096 = y
  unfold scores Ideal.logistic
  pointwise [val_main_cst, val_main_cst_0]

variable (x0 : FVec Ideal S4x2048x4096 .f32) (x1 : FVec Ideal S64x4096 .f32) (x2 : FVec Ideal S64 .f32)

/-- The biased scores of token `t`. -/
abbrev f (t : Fin 8192) : Fin 64 → EReal := biased (shapeCast S8192x4096 x0 shapeCasts_S4x2048x4096_S8192x4096) x1 x2 t

/-- The reference's biased scores. -/
theorem biased_at (t : Fin 8192) (e : Fin 64) : val_main_v11 (F := Ideal) x0 x1 x2 (ix2 t e) = f x0 x1 x2 t e := by
  have h : val_main_v11 (F := Ideal) x0 x1 x2 (ix2 t e) = val_main_v8 (F := Ideal) x0 x1 (ix2 t e) + x2 (ix1 e) := by
    unfold val_main_v11 val_main_v10 val_main_v9
    generalize val_main_v8 (F := Ideal) x0 x1 = y
    pointwise []
  rw [h, scores_at]
  rfl

/-- The reference's group sums. -/
theorem group_at (t : Fin 8192) (g : Fin 8) : val_main_v13 (F := Ideal) x0 x1 x2 (ix2 t g) = groupSum (f x0 x1 x2 t) g := by
  have h : val_main_v13 (F := Ideal) x0 x1 x2 (ix2 t g) = groupSum (fun e => val_main_v11 (F := Ideal) x0 x1 x2 (ix2 t e)) g := by
    unfold val_main_v13 val_main_v12 groupSum
    generalize val_main_v11 (F := Ideal) x0 x1 x2 = y
    pointwise [val_main_cst_1]
    simp only [mul_comm]
  rw [h]
  simp only [biased_at]

/-- The reference's chosen groups, best first. -/
theorem groups_at (t : Fin 8192) (j : Fin 4) : val_main_indices (F := Ideal) x0 x1 x2 (ix2 t j)
    = BitVec.ofNat 32 (perm (groupSum (f x0 x1 x2 t)) ⟨j.val, by omega⟩).val := by
  have h := top_words (k := 4) (by omega) (val_main_v13 (F := Ideal) x0 x1 x2) sliceFits_S8192x8_S8192x4 t j
  simp only [group_at] at h
  exact h

/-- Where the groups are read. -/
theorem group_word (t : Fin 8192) (j : Fin 4) : val_main_call0_v4 (F := Ideal) x0 x1 x2 (ix3 t j 0)
    = BitVec.ofNat 32 (perm (groupSum (f x0 x1 x2 t)) ⟨j.val, by omega⟩).val := by
  have h : val_main_call0_v4 (F := Ideal) x0 x1 x2 (ix3 t j 0)
      = Scalar.select (IntOp.cmpi .slt (val_main_indices (F := Ideal) x0 x1 x2 (ix2 t j)) 0#32)
          (IntOp.addi (val_main_indices (F := Ideal) x0 x1 x2 (ix2 t j)) 8#32) (val_main_indices (F := Ideal) x0 x1 x2 (ix2 t j)) := by
    unfold val_main_call0_v4 val_main_call0_v3 val_main_call0_v2 val_main_call0_v1 val_main_call0_v0 val_main_v14
    generalize val_main_indices (F := Ideal) x0 x1 x2 = y
    pointwise [val_main_call0_c, val_main_call0_c_0]
  rw [h, groups_at, not_negative ⟨_, (Fin.isLt _).trans (by omega)⟩]
  rfl

/-- Every such position is in range. -/
theorem group_in_range (t : Fin 8192) (j : Fin 4) : val_main_call0_v11 (F := Ideal) x0 x1 x2 (ix2 t j) = 1#1 := by
  unfold val_main_call0_v11
  refine Host.reduce_andi_one _ _ _ _ _ rfl fun i => ?_
  obtain ⟨r, k, z, rfl⟩ : ∃ r k z, i = ix3 r k z := ⟨i 0, i 1, i 2, by funext a; fin_cases a <;> rfl⟩
  obtain rfl : z = 0 := Subsingleton.elim _ _
  have h : val_main_call0_v10 (F := Ideal) x0 x1 x2 (ix3 r k 0)
      = IntOp.andi (IntOp.cmpi .sge (val_main_call0_v4 (F := Ideal) x0 x1 x2 (ix3 r k 0)) 0#32)
          (IntOp.cmpi .sle (val_main_call0_v4 (F := Ideal) x0 x1 x2 (ix3 r k 0)) 7#32) := by
    unfold val_main_call0_v10 val_main_call0_v9 val_main_call0_v8 val_main_call0_v7 val_main_call0_v6 val_main_call0_v5
    generalize val_main_call0_v4 (F := Ideal) x0 x1 x2 = y
    pointwise [val_main_call0_c_1, val_main_call0_c_2]
  rw [h, group_word]
  have hg := (perm (groupSum (f x0 x1 x2 r)) ⟨k.val, by omega⟩).isLt
  exact in_range ⟨7, by omega⟩ ⟨_, hg.trans (show 8 < 64 by omega)⟩ (Nat.le_of_lt_succ hg)

/-- The biased scores of a chosen group. -/
theorem chosen_group_at (t : Fin 8192) (j : Fin 4) (l : Fin 8) : val_main_v15 (F := Ideal) x0 x1 x2 (ix3 t j l)
    = f x0 x1 x2 t ⟨8 * (perm (groupSum (f x0 x1 x2 t)) ⟨j.val, by omega⟩).val + l.val, by omega⟩ := by
  have h : val_main_v15 (F := Ideal) x0 x1 x2 (ix3 t j l)
      = Scalar.select (val_main_call0_v11 (F := Ideal) x0 x1 x2 (ix2 t j)) (val_main_call0_v12 (F := Ideal) x0 x1 x2 (ix3 t j l)) (val_main_call0_v14 (F := Ideal) (ix3 t j l)) := by
    unfold val_main_v15 val_main_call0_v13
    generalize val_main_call0_v11 (F := Ideal) x0 x1 x2 = y
    generalize val_main_call0_v12 (F := Ideal) x0 x1 x2 = y'
    generalize val_main_call0_v14 (F := Ideal) = y''
    pointwise []
  have h' : ∀ g, val_main_v12 (F := Ideal) x0 x1 x2 (ix3 t g l) = val_main_v11 (F := Ideal) x0 x1 x2 (ix2 t ⟨8 * g.val + l.val, by omega⟩) := by
    intro g
    unfold val_main_v12
    generalize val_main_v11 (F := Ideal) x0 x1 x2 = y
    pointwise []
    simp only [mul_comm]
  rw [h, group_in_range]
  show val_main_call0_v12 (F := Ideal) x0 x1 x2 (ix3 t j l) = _
  unfold val_main_call0_v12
  show val_main_v12 (F := Ideal) x0 x1 x2 (gather_S8192x8x8_S8192x4x1_S8192x4x8_2_1_0_0_1_2_118.operandIdx (ix3 t j l) (val_main_call0_v4 (F := Ideal) x0 x1 x2)) = _
  rw [gather_group _ t j l _ (group_word x0 x1 x2 t j), h', biased_at]

/-- The biased scores of the chosen groups' experts, side by side. -/
theorem candidates_at (t : Fin 8192) (q : Fin 32) : val_main_v16 (F := Ideal) x0 x1 x2 (ix2 t q)
    = f x0 x1 x2 t (ex (groupSum (f x0 x1 x2 t)) q) := by
  have h : val_main_v16 (F := Ideal) x0 x1 x2 (ix2 t q)
      = val_main_v15 (F := Ideal) x0 x1 x2 (ix3 t ⟨q.val / 8, by omega⟩ ⟨q.val % 8, by omega⟩) := by
    unfold val_main_v16
    generalize val_main_v15 (F := Ideal) x0 x1 x2 = y
    pointwise []
  rw [h, chosen_group_at]
  rfl

/-- The position among the candidates of token `t`'s choice `k`. -/
abbrev position (t : Fin 8192) (k : Fin 8) : Fin 32 :=
  perm (fun q => f x0 x1 x2 t (ex (groupSum (f x0 x1 x2 t)) q)) ⟨k.val, by omega⟩

/-- The reference's second choice: positions among the candidates, best first. -/
theorem position_at (t : Fin 8192) (k : Fin 8) : val_main_indices_3 (F := Ideal) x0 x1 x2 (ix2 t k)
    = BitVec.ofNat 32 (position x0 x1 x2 t k).val := by
  have h := top_words (k := 8) (by omega) (val_main_v16 (F := Ideal) x0 x1 x2) sliceFits_S8192x32_S8192x8 t k
  simp only [candidates_at] at h
  exact h

/-- A position's chosen group, by the rounded-down quotient. -/
theorem quotient_at (t : Fin 8192) (k : Fin 8) : val_main_v17 (F := Ideal) x0 x1 x2 (ix2 t k)
    = BitVec.ofNat 32 ((position x0 x1 x2 t k).val / 8) := by
  have h := position_at x0 x1 x2 t k
  generalize position x0 x1 x2 t k = q at h ⊢
  unfold val_main_v17 val_main_call1_v13 val_main_call1_v12 val_main_call1_v11 val_main_call1_v10 val_main_call1_v9 val_main_call1_v8 val_main_call1_v7
    val_main_call1_v6 val_main_call1_v5 val_main_call1_v4 val_main_call1_v3 val_main_call1_v2 val_main_call1_v1 val_main_call1_v0
  generalize val_main_indices_3 (F := Ideal) x0 x1 x2 = y at h ⊢
  pointwise [val_main_c, val_main_call1_c, val_main_call1_c_0]
  rw [h]
  clear h
  revert q
  decide +kernel

/-- A position's place in its group, by the remainder. -/
theorem remainder_at (t : Fin 8192) (k : Fin 8) : val_main_v18 (F := Ideal) x0 x1 x2 (ix2 t k)
    = BitVec.ofNat 32 ((position x0 x1 x2 t k).val % 8) := by
  have h := position_at x0 x1 x2 t k
  generalize position x0 x1 x2 t k = q at h ⊢
  unfold val_main_v18 val_main_call2_v14 val_main_call2_v13 val_main_call2_v12 val_main_call2_v11 val_main_call2_v10 val_main_call2_v9 val_main_call2_v8 val_main_call2_v7
    val_main_call2_v6 val_main_call2_v5 val_main_call2_v4 val_main_call2_v3 val_main_call2_v2 val_main_call2_v1 val_main_call2_v0
  generalize val_main_indices_3 (F := Ideal) x0 x1 x2 = y at h ⊢
  pointwise [val_main_c_4, val_main_call2_c, val_main_call2_c_0, val_main_call2_c_1, val_main_call2_c_2, val_main_call2_c_3]
  rw [h]
  clear h
  revert q
  decide +kernel

/-- Where the chosen group's number is read. -/
theorem quotient_word (t : Fin 8192) (k : Fin 8) : val_main_call3_v5 (F := Ideal) x0 x1 x2 (ix3 t k 0)
    = BitVec.ofNat 32 ((position x0 x1 x2 t k).val / 8) := by
  have h : val_main_call3_v5 (F := Ideal) x0 x1 x2 (ix3 t k 0)
      = Scalar.select (IntOp.cmpi .slt (val_main_v17 (F := Ideal) x0 x1 x2 (ix2 t k)) 0#32)
          (IntOp.addi (val_main_v17 (F := Ideal) x0 x1 x2 (ix2 t k)) 4#32) (val_main_v17 (F := Ideal) x0 x1 x2 (ix2 t k)) := by
    unfold val_main_call3_v5 val_main_call3_v4 val_main_call3_v3 val_main_call3_v2 val_main_call3_v1 val_main_call3_v0
    generalize val_main_v17 (F := Ideal) x0 x1 x2 = y
    pointwise [val_main_call3_c, val_main_call3_c_0]
  rw [h, quotient_at, not_negative ⟨(position x0 x1 x2 t k).val / 8, by omega⟩]
  rfl

/-- Every such place is in range. -/
theorem quotient_in_range (t : Fin 8192) (k : Fin 8) : val_main_call3_v12 (F := Ideal) x0 x1 x2 (ix2 t k) = 1#1 := by
  unfold val_main_call3_v12
  refine Host.reduce_andi_one _ _ _ _ _ rfl fun i => ?_
  obtain ⟨r, k, z, rfl⟩ : ∃ r k z, i = ix3 r k z := ⟨i 0, i 1, i 2, by funext a; fin_cases a <;> rfl⟩
  obtain rfl : z = 0 := Subsingleton.elim _ _
  have h : val_main_call3_v11 (F := Ideal) x0 x1 x2 (ix3 r k 0)
      = IntOp.andi (IntOp.cmpi .sge (val_main_call3_v5 (F := Ideal) x0 x1 x2 (ix3 r k 0)) 0#32)
          (IntOp.cmpi .sle (val_main_call3_v5 (F := Ideal) x0 x1 x2 (ix3 r k 0)) 3#32) := by
    unfold val_main_call3_v11 val_main_call3_v10 val_main_call3_v9 val_main_call3_v8 val_main_call3_v7 val_main_call3_v6
    generalize val_main_call3_v5 (F := Ideal) x0 x1 x2 = y
    pointwise [val_main_call3_c_1, val_main_call3_c_2]
  rw [h, quotient_word]
  exact in_range ⟨3, by omega⟩ ⟨(position x0 x1 x2 r k).val / 8, by omega⟩ (by show (position x0 x1 x2 r k).val / 8 ≤ 3; omega)

/-- The number of a choice's group. -/
theorem chosen_number_at (t : Fin 8192) (k : Fin 8) : val_main_v19 (F := Ideal) x0 x1 x2 (ix2 t k)
    = BitVec.ofNat 32 (perm (groupSum (f x0 x1 x2 t)) ⟨(position x0 x1 x2 t k).val / 8, by omega⟩).val := by
  rw [val_main_v19_apply, quotient_in_range]
  show val_main_indices (F := Ideal) x0 x1 x2 ((pick gather_S8192x4_S8192x8x1_S8192x8_n_1_0_0_1_2_11_wf).operandIdx (ix2 t k) (val_main_call3_v5 (F := Ideal) x0 x1 x2)) = _
  rw [pick_index _ (by omega) _ t k ⟨(position x0 x1 x2 t k).val / 8, by omega⟩ (quotient_word x0 x1 x2 t k), groups_at]

/-- An expert's number from its group and its place in it. -/
theorem expert_word : ∀ (g p : Fin 8), IntOp.addi (IntOp.muli (BitVec.ofNat 32 g.val) 8#32) (BitVec.ofNat 32 p.val)
    = BitVec.ofNat 32 (8 * g.val + p.val) := by decide +kernel

/-- The reference's first result. -/
theorem expert_at (t : Fin 8192) (k : Fin 8) : val_main_v22 (F := Ideal) x0 x1 x2 (ix2 t k)
    = BitVec.ofNat 32 (expert (f x0 x1 x2 t) k).val := by
  have h : val_main_v22 (F := Ideal) x0 x1 x2 (ix2 t k)
      = IntOp.addi (IntOp.muli (val_main_v19 (F := Ideal) x0 x1 x2 (ix2 t k)) 8#32) (val_main_v18 (F := Ideal) x0 x1 x2 (ix2 t k)) := by
    unfold val_main_v22 val_main_v21 val_main_v20
    generalize val_main_v19 (F := Ideal) x0 x1 x2 = y
    generalize val_main_v18 (F := Ideal) x0 x1 x2 = y'
    pointwise [val_main_c_5]
  rw [h, chosen_number_at, remainder_at]
  exact expert_word _ ⟨(position x0 x1 x2 t k).val % 8, by omega⟩

/-- Where the chosen experts' scores are read. -/
theorem expert_read (t : Fin 8192) (k : Fin 8) : val_main_call4_v5 (F := Ideal) x0 x1 x2 (ix3 t k 0)
    = BitVec.ofNat 32 (expert (f x0 x1 x2 t) k).val := by
  have h : val_main_call4_v5 (F := Ideal) x0 x1 x2 (ix3 t k 0)
      = Scalar.select (IntOp.cmpi .slt (val_main_v22 (F := Ideal) x0 x1 x2 (ix2 t k)) 0#32)
          (IntOp.addi (val_main_v22 (F := Ideal) x0 x1 x2 (ix2 t k)) 64#32) (val_main_v22 (F := Ideal) x0 x1 x2 (ix2 t k)) := by
    unfold val_main_call4_v5 val_main_call4_v4 val_main_call4_v3 val_main_call4_v2 val_main_call4_v1 val_main_call4_v0
    generalize val_main_v22 (F := Ideal) x0 x1 x2 = y
    pointwise [val_main_call4_c, val_main_call4_c_0]
  rw [h, expert_at, not_negative]
  rfl

/-- Every expert's number is in range. -/
theorem expert_in_range (t : Fin 8192) (k : Fin 8) : val_main_call4_v12 (F := Ideal) x0 x1 x2 (ix2 t k) = 1#1 := by
  unfold val_main_call4_v12
  refine Host.reduce_andi_one _ _ _ _ _ rfl fun i => ?_
  obtain ⟨r, k, z, rfl⟩ : ∃ r k z, i = ix3 r k z := ⟨i 0, i 1, i 2, by funext a; fin_cases a <;> rfl⟩
  obtain rfl : z = 0 := Subsingleton.elim _ _
  have h : val_main_call4_v11 (F := Ideal) x0 x1 x2 (ix3 r k 0)
      = IntOp.andi (IntOp.cmpi .sge (val_main_call4_v5 (F := Ideal) x0 x1 x2 (ix3 r k 0)) 0#32)
          (IntOp.cmpi .sle (val_main_call4_v5 (F := Ideal) x0 x1 x2 (ix3 r k 0)) 63#32) := by
    unfold val_main_call4_v11 val_main_call4_v10 val_main_call4_v9 val_main_call4_v8 val_main_call4_v7 val_main_call4_v6
    generalize val_main_call4_v5 (F := Ideal) x0 x1 x2 = y
    pointwise [val_main_call4_c_1, val_main_call4_c_2]
  rw [h, expert_read]
  exact in_range ⟨63, by omega⟩ _ (Nat.le_of_lt_succ (Fin.isLt _))

/-- The chosen experts' scores. -/
theorem weight_at (t : Fin 8192) (k : Fin 8) : val_main_v23 (F := Ideal) x0 x1 x2 (ix2 t k)
    = scores (shapeCast S8192x4096 x0 shapeCasts_S4x2048x4096_S8192x4096) x1 t (expert (f x0 x1 x2 t) k) := by
  rw [val_main_v23_apply, expert_in_range]
  show val_main_v8 (F := Ideal) x0 x1 ((pick gather_S8192x64_S8192x8x1_S8192x8_n_1_0_0_1_2_11_wf).operandIdx (ix2 t k) (val_main_call4_v5 (F := Ideal) x0 x1 x2)) = _
  rw [pick_index _ (by omega) _ t k _ (expert_read x0 x1 x2 t k), scores_at]

/-- The reference's second result. -/
theorem share_at (t : Fin 8192) (k : Fin 8) : val_main_v31 (F := Ideal) x0 x1 x2 (ix2 t k)
    = share (fun j => scores (shapeCast S8192x4096 x0 shapeCasts_S4x2048x4096_S8192x4096) x1 t (expert (f x0 x1 x2 t) j)) k := by
  have h : val_main_v31 (F := Ideal) x0 x1 x2 (ix2 t k) = share (fun j => val_main_v23 (F := Ideal) x0 x1 x2 (ix2 t j)) k := by
    unfold val_main_v31 val_main_v30 val_main_v29 val_main_v28 val_main_v27 val_main_v26 val_main_v25 val_main_v24 share
    generalize val_main_v23 (F := Ideal) x0 x1 x2 = y
    pointwise [val_main_cst_6, val_main_cst_7, val_main_cst_8]
  rw [h]
  simp only [weight_at]

end Cert.ReferenceIdeal.Routing

end
-- ==== Proof.lean ====
module

public import proofs.«01_k».proof.Defs
public import proofs.«01_k».proof.Proof.Gen.Kernel.Frame
public import proofs.«01_k».proof.Proof.Gen.KernelIdeal.Frame
public import proofs.«01_k».proof.Proof.Kernel
public import proofs.«01_k».proof.Proof.Reference
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The side condition the precondition states. -/
theorem pre_facts : Cert.Pre_bias_above_mask.Facts := ⟨by decide⟩

attribute [local instance] Cert.Kernel.Gen.facts Cert.KernelIdeal.Gen.facts Cert.ReferenceIdeal.Gen.facts pre_facts

/-- What the precondition says at one expert. -/
theorem bias_above (m : (ℓ : Loc Cert.KernelIdeal.nD Cert.KernelIdeal.τ Cert.KernelIdeal.sig) → Buf (Elt Ideal) ℓ)
    (h : Cert.Pre_KernelIdeal_bias_above_mask m) (c : Dev Cert.KernelIdeal.nD) : Cert.KernelIdeal.RefValue.BiasAbove m c := by
  intro e hb
  have h1 := congrFun (h c) (ix1 e)
  have h2 : (FloatOps.cmpf (F := Ideal) (φ := .f32) .ogt (Cert.KernelIdeal.RefValue.bias m c (ix1 e)) (Ideal.ofBits .f32 0xFF800000#32) : BitVec 1) = 1#1 := h1
  rw [hb] at h2
  have h3 : BitVec.ofBool (decide (Ideal.ofBits .f32 0xFF800000#32 < (⊥ : EReal))) = 1#1 := h2
  simp at h3

/-- The reference ends with its arguments unchanged and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2.2, sem_eq_zero_of_no_sems rfl r.2⟩) (Cert.ReferenceIdeal.Value.run m g)

/-- From equal arguments, the reference's two results are the kernel's. -/
theorem reference_results (m : (ℓ : Loc Cert.KernelIdeal.nD Cert.KernelIdeal.τ Cert.KernelIdeal.sig) → Buf (Elt Ideal) ℓ) (c : Dev Cert.KernelIdeal.nD) :
    Cert.ReferenceIdeal.Read.val_main_v22 (F := Ideal) (m ((c.tc : Thread Cert.KernelIdeal.nD Cert.KernelIdeal.τ).loc Cert.KernelIdeal.main_arg0))
        (Cert.KernelIdeal.RefValue.wts m c) (Cert.KernelIdeal.RefValue.bias m c) = Cert.KernelIdeal.RefValue.experts m c
    ∧ Cert.ReferenceIdeal.Read.val_main_v31 (F := Ideal) (m ((c.tc : Thread Cert.KernelIdeal.nD Cert.KernelIdeal.τ).loc Cert.KernelIdeal.main_arg0))
        (Cert.KernelIdeal.RefValue.wts m c) (Cert.KernelIdeal.RefValue.bias m c) = Cert.KernelIdeal.RefValue.shares m c := by
  constructor
  · funext i
    obtain ⟨t, k, rfl⟩ := Cert.KernelIdeal.RefValue.idx_result i
    exact Cert.ReferenceIdeal.Routing.expert_at _ _ _ t k
  · funext i
    obtain ⟨t, k, rfl⟩ := Cert.KernelIdeal.RefValue.idx_result i
    exact Cert.ReferenceIdeal.Routing.share_at _ _ _ t k

/-- The kernel and the reference end with equal results. -/
theorem agree : Cert.algebraic_KernelIdeal_ReferenceIdeal_pre_bias_above_mask := by
  intro m g m' g' hpre hargs
  refine ⟨Cert.KernelIdeal.RefValue.experts m, Cert.KernelIdeal.RefValue.shares m,
    Cert.KernelIdeal.RefValue.run m g (bias_above m hpre), (θ_run _ _ _).mono (fun r h c => ?_) (Cert.ReferenceIdeal.Value.run m' g')⟩
  obtain ⟨h0, h1, hu⟩ := h c
  obtain ⟨a0, a1, a2⟩ := hargs c
  rw [Cert.ReferenceIdeal.Read.val_main_v22_eq] at h0
  rw [Cert.ReferenceIdeal.Read.val_main_v31_eq] at h1
  change _ = Cert.ReferenceIdeal.Read.val_main_v22 (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2)) at h0
  change _ = Cert.ReferenceIdeal.Read.val_main_v31 (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2)) at h1
  rw [a0, a1, a2] at h0 h1
  exact ⟨h0.trans (reference_results m c).1, h1.trans (reference_results m c).2, hu⟩

/-- Everything the certificate claims. -/
theorem claim : Cert.Claim := ⟨Cert.Kernel.Gen.facts, Cert.KernelIdeal.Gen.facts, Cert.ReferenceIdeal.Gen.facts, pre_facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  IdealRules.named_const.statement Cert.KernelIdeal.κ "mask" .f32 0xF149F2CA#32 ⊥ rfl,
  agree⟩

end Cert.Proof

end
